-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_d_out_finite [hPre_d_out_finite : Cert.Pre_d_out_finite.Facts] (m : (ℓ : Loc Cert.KernelIdeal.nD Cert.KernelIdeal.τ Cert.KernelIdeal.sig) → Buf (Elt Ideal) ℓ) : Prop :=
  ∀ c : Dev Cert.KernelIdeal.nD,
    (Cert.Pre_d_out_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_d_out_finite [hPre_d_out_finite : Cert.Pre_d_out_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_d_out_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_d_out_finite [hKernelIdeal : Cert.KernelIdeal.Facts] [hPre_d_out_finite : Cert.Pre_d_out_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_d_out_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_d_out_finite [hReferenceIdeal : Cert.ReferenceIdeal.Facts] [hPre_d_out_finite : Cert.Pre_d_out_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_d_out_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_d_out_finite [hKernelIdeal : Cert.KernelIdeal.Facts] [hReferenceIdeal : Cert.ReferenceIdeal.Facts] [hPre_d_out_finite : Cert.Pre_d_out_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_d_out_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v15)) (v5 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v6_2) = v4 c
          ∧ r.2.mem ((c.tc : Thread Cert.ReferenceIdeal.nD Cert.ReferenceIdeal.τ).loc Cert.ReferenceIdeal.main_v7) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_d_out_finite : Cert.Pre_d_out_finite.Facts),
    quiescent_Kernel (hKernel := hKernel)
    ∧ quiescent_KernelIdeal (hKernelIdeal := hKernelIdeal)
    ∧ quiescent_KernelIdeal_pre_d_out_finite (hKernelIdeal := hKernelIdeal) (hPre_d_out_finite := hPre_d_out_finite)
    ∧ quiescent_ReferenceIdeal (hReferenceIdeal := hReferenceIdeal)
    ∧ quiescent_ReferenceIdeal_pre_d_out_finite (hReferenceIdeal := hReferenceIdeal) (hPre_d_out_finite := hPre_d_out_finite)
    ∧ preserves_Kernel_KernelIdeal
    ∧ algebraic_KernelIdeal_ReferenceIdeal_pre_d_out_finite (hKernelIdeal := hKernelIdeal) (hReferenceIdeal := hReferenceIdeal) (hPre_d_out_finite := hPre_d_out_finite)
-- ==== Pre_d_out_finite.lean ====
abbrev S256x6x128 : Shape := ⟨3, ![256, 6, 128]⟩
abbrev S12x16384x6x128 : Shape := ⟨4, ![12, 16384, 6, 128]⟩
abbrev S12x6 : Shape := ⟨2, ![12, 6]⟩
abbrev S12x256x6x128 : Shape := ⟨4, ![12, 256, 6, 128]⟩
abbrev S12x6x256 : Shape := ⟨3, ![12, 6, 256]⟩
abbrev S_ : Shape := ⟨0, ![]⟩

class Facts : Prop where
  bitsLt_bf16_f32 : FTy.bits .bf16 < FTy.bits .f32
  bcast_S_S12x256x6x128 : S_.BroadcastsInDim S12x256x6x128 (![] : Fin 0 → Fin S12x256x6x128.rank)
  reducesTo_S12x256x6x128_S_d0_1_2_3 : S12x256x6x128.ReducesTo [0, 1, 2, 3] S_
  h_S_ : 0 < S_.numel

variable [Facts]

def fn {F : FTy → Type} [FloatOps F] (main_arg0 : FVec F S256x6x128 .bf16) (main_arg1 : FVec F S12x16384x6x128 .fp8e4m3) (main_arg2 : FVec F S12x6 .f32) (main_arg3 : FVec F S12x16384x6x128 .fp8e4m3) (main_arg4 : FVec F S12x6 .f32) (main_arg5 : FVec F S12x256x6x128 .bf16) (main_arg6 : FVec F S12x6x256 .f32) (main_arg7 : FVec F S12x256x6x128 .bf16) : IVec S_ 1 :=
  let main_v0 : FVec F S12x256x6x128 .f32 := (extf .f32 · bitsLt_bf16_f32) main_arg7
  let main_v1 : FVec F S12x256x6x128 .f32 := Host.absf main_v0
  let main_cst : FVec F S_ .f32 := constant S_ .f32 0x7F7F0000#32
  let main_v2 : FVec F S12x256x6x128 .f32 := broadcastInDim S12x256x6x128 ![] bcast_S_S12x256x6x128 main_cst
  let main_v3 : IVec S12x256x6x128 1 := cmpf .ole main_v1 main_v2
  let main_c : IVec S_ 1 := constantI S_ 1 1#1
  let main_v4 : IVec S_ 1 := (fun x v => Host.reduce IntOp.andi x v reducesTo_S12x256x6x128_S_d0_1_2_3 h_S_) main_v3 main_c
  main_v4
-- ==== Kernel.lean ====
abbrev S256x6x128 : Shape := ⟨3, ![256, 6, 128]⟩
abbrev S12x16384x6x128 : Shape := ⟨4, ![12, 16384, 6, 128]⟩
abbrev S12x6 : Shape := ⟨2, ![12, 6]⟩
abbrev S12x256x6x128 : Shape := ⟨4, ![12, 256, 6, 128]⟩
abbrev S12x6x256 : Shape := ⟨3, ![12, 6, 256]⟩
abbrev S6x256x128 : Shape := ⟨3, ![6, 256, 128]⟩
abbrev S12x6x16384x128 : Shape := ⟨4, ![12, 6, 16384, 128]⟩
abbrev S12x6x256x128 : Shape := ⟨4, ![12, 6, 256, 128]⟩
abbrev S12x6x1x256 : Shape := ⟨4, ![12, 6, 1, 256]⟩
abbrev S6x12 : Shape := ⟨2, ![6, 12]⟩
abbrev S72 : Shape := ⟨1, ![72]⟩
abbrev S1x256x128 : Shape := ⟨3, ![1, 256, 128]⟩
abbrev S1x1x2048x128 : Shape := ⟨4, ![1, 1, 2048, 128]⟩
abbrev S1x1x256x128 : Shape := ⟨4, ![1, 1, 256, 128]⟩
abbrev S1x1x1x256 : Shape := ⟨4, ![1, 1, 1, 256]⟩
abbrev S128x256 : Shape := ⟨2, ![128, 256]⟩
abbrev S256x128 : Shape := ⟨2, ![256, 128]⟩
abbrev S1 : Shape := ⟨1, ![1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S12x256x6 : Shape := ⟨3, ![12, 256, 6]⟩

abbrev nBuf : Space → Nat
  | .hbm => 31
  | .vmem => 31
  | .smem => 2
  | _ => 0

abbrev bufTy : (tb : Table) → Fin (tcTables nBuf tb) → BufTy
  | .hbm, ⟨0, _⟩ => ⟨S256x6x128, .bf16⟩
  | .hbm, ⟨1, _⟩ => ⟨S12x16384x6x128, .fp8e4m3⟩
  | .hbm, ⟨2, _⟩ => ⟨S12x6, .f32⟩
  | .hbm, ⟨3, _⟩ => ⟨S12x16384x6x128, .fp8e4m3⟩
  | .hbm, ⟨4, _⟩ => ⟨S12x6, .f32⟩
  | .hbm, ⟨5, _⟩ => ⟨S12x256x6x128, .bf16⟩
  | .hbm, ⟨6, _⟩ => ⟨S12x6x256, .f32⟩
  | .hbm, ⟨7, _⟩ => ⟨S12x256x6x128, .bf16⟩
  | .hbm, ⟨8, _⟩ => ⟨S6x256x128, .bf16⟩
  | .hbm, ⟨9, _⟩ => ⟨S12x6x16384x128, .fp8e4m3⟩
  | .hbm, ⟨10, _⟩ => ⟨S12x6x16384x128, .fp8e4m3⟩
  | .hbm, ⟨11, _⟩ => ⟨S12x6x256x128, .bf16⟩
  | .hbm, ⟨12, _⟩ => ⟨S12x6x256x128, .bf16⟩
  | .hbm, ⟨13, _⟩ => ⟨S12x6x1x256, .f32⟩
  | .hbm, ⟨14, _⟩ => ⟨S6x12, .f32⟩
  | .hbm, ⟨15, _⟩ => ⟨S72, .f32⟩
  | .hbm, ⟨16, _⟩ => ⟨S6x12, .f32⟩
  | .hbm, ⟨17, _⟩ => ⟨S72, .f32⟩
  | .hbm, ⟨18, _⟩ => ⟨S6x256x128, .bf16⟩
  | .hbm, ⟨19, _⟩ => ⟨S12x6x256x128, .f32⟩
  | .hbm, ⟨20, _⟩ => ⟨S12x6x16384x128, .bf16⟩
  | .hbm, ⟨21, _⟩ => ⟨S12x6x16384x128, .bf16⟩
  | .hbm, ⟨22, _⟩ => ⟨S12x6x256x128, .fp8e5m2⟩
  | .hbm, ⟨23, _⟩ => ⟨S12x6x1x256, .f32⟩
  | .hbm, ⟨24, _⟩ => ⟨S256x6x128, .bf16⟩
  | .hbm, ⟨25, _⟩ => ⟨S12x256x6x128, .f32⟩
  | .hbm, ⟨26, _⟩ => ⟨S12x16384x6x128, .bf16⟩
  | .hbm, ⟨27, _⟩ => ⟨S12x16384x6x128, .bf16⟩
  | .hbm, ⟨28, _⟩ => ⟨S12x256x6x128, .fp8e5m2⟩
  | .hbm, ⟨29, _⟩ => ⟨S12x6x256, .f32⟩
  | .hbm, ⟨30, _⟩ => ⟨S12x256x6, .f32⟩
  | .local _ .vmem, ⟨0, _⟩ => ⟨S1x256x128, .bf16⟩
  | .local _ .vmem, ⟨1, _⟩ => ⟨S1x256x128, .bf16⟩
  | .local _ .vmem, ⟨2, _⟩ => ⟨S1x1x2048x128, .fp8e4m3⟩
  | .local _ .vmem, ⟨3, _⟩ => ⟨S1x1x2048x128, .fp8e4m3⟩
  | .local _ .vmem, ⟨4, _⟩ => ⟨S1x1x2048x128, .fp8e4m3⟩
  | .local _ .vmem, ⟨5, _⟩ => ⟨S1x1x2048x128, .fp8e4m3⟩
  | .local _ .vmem, ⟨6, _⟩ => ⟨S1x1x256x128, .bf16⟩
  | .local _ .vmem, ⟨7, _⟩ => ⟨S1x1x256x128, .bf16⟩
  | .local _ .vmem, ⟨8, _⟩ => ⟨S1x1x1x256, .f32⟩
  | .local _ .vmem, ⟨9, _⟩ => ⟨S1x1x1x256, .f32⟩
  | .local _ .vmem, ⟨10, _⟩ => ⟨S1x1x256x128, .bf16⟩
  | .local _ .vmem, ⟨11, _⟩ => ⟨S1x1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x1x256x128, .f32⟩
  | .local _ .vmem, ⟨15, _⟩ => ⟨S1x1x256x128, .f32⟩
  | .local _ .vmem, ⟨16, _⟩ => ⟨S1x1x2048x128, .bf16⟩
  | .local _ .vmem, ⟨17, _⟩ => ⟨S1x1x2048x128, .bf16⟩
  | .local _ .vmem, ⟨18, _⟩ => ⟨S1x1x2048x128, .bf16⟩
  | .local _ .vmem, ⟨19, _⟩ => ⟨S1x1x2048x128, .bf16⟩
  | .local _ .vmem, ⟨20, _⟩ => ⟨S1x1x256x128, .fp8e5m2⟩
  | .local _ .vmem, ⟨21, _⟩ => ⟨S1x1x256x128, .fp8e5m2⟩
  | .local _ .vmem, ⟨22, _⟩ => ⟨S1x1x1x256, .f32⟩
  | .local _ .vmem, ⟨23, _⟩ => ⟨S1x1x1x256, .f32⟩
  | .local _ .vmem, ⟨24, _⟩ => ⟨S128x256, .bf16⟩
  | .local _ .vmem, ⟨25, _⟩ => ⟨S128x256, .bf16⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .smem, ⟨0, _⟩ => ⟨S72, .f32⟩
  | .local _ .smem, ⟨1, _⟩ => ⟨S72, .f32⟩
  | _, _ => ⟨S256x6x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![6, 12, 8], ![false, false, false]⟩

def k0_off1 (i : grid0.Coords) : Fin 1 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let v2 : Index := Scalar.indexCast v1
  ![v2.toNat]
def k0_cond2 (i : grid0.Coords) : BitVec 1 :=
  let arg2 : BitVec 32 := BitVec.ofNat 32 (i 2).val
  let c7_i32 : BitVec 32 := 7#32
  let v335 : BitVec 1 := Scalar.cmpi .eq arg2 c7_i32
  let v336 : BitVec 32 := Scalar.extui v335
  let c0_i32_234 : BitVec 32 := 0#32
  let v337 : BitVec 1 := Scalar.cmpi .ne v336 c0_i32_234
  v337

def k0_cond5 (i : grid0.Coords) : BitVec 1 :=
  let arg1 : BitVec 32 := BitVec.ofNat 32 (i 1).val
  let c11_i32 : BitVec 32 := 11#32
  let v351 : BitVec 1 := Scalar.cmpi .eq arg1 c11_i32
  let v352 : BitVec 32 := Scalar.extui v351
  let c0_i32_246 : BitVec 32 := 0#32
  let v353 : BitVec 1 := Scalar.cmpi .ne v352 c0_i32_246
  v353

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_1 : BitVec 32 := 0#32
  let v10 : BitVec 1 := Scalar.cmpi .ne v9 c0_i32_1
  v10

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .smem S72 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x256x128 .fp8e5m2 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S256x6x128 : Shape := ⟨3, ![256, 6, 128]⟩
abbrev S12x16384x6x128 : Shape := ⟨4, ![12, 16384, 6, 128]⟩
abbrev S12x6 : Shape := ⟨2, ![12, 6]⟩
abbrev S12x256x6x128 : Shape := ⟨4, ![12, 256, 6, 128]⟩
abbrev S12x6x256 : Shape := ⟨3, ![12, 6, 256]⟩
abbrev S_ : Shape := ⟨0, ![]⟩
abbrev S12x256x6 : Shape := ⟨3, ![12, 256, 6]⟩
abbrev S12x256x6x1 : Shape := ⟨4, ![12, 256, 6, 1]⟩
abbrev S12x6x1x1 : Shape := ⟨4, ![12, 6, 1, 1]⟩
abbrev S6x12x16384x256 : Shape := ⟨4, ![6, 12, 16384, 256]⟩
abbrev S12x6x256x16384 : Shape := ⟨4, ![12, 6, 256, 16384]⟩
abbrev S12x6x256x1 : Shape := ⟨4, ![12, 6, 256, 1]⟩
abbrev S12x6x1 : Shape := ⟨3, ![12, 6, 1]⟩
abbrev S12x6x128x16384 : Shape := ⟨4, ![12, 6, 128, 16384]⟩
abbrev S6x128x12x16384 : Shape := ⟨4, ![6, 128, 12, 16384]⟩
abbrev S12x1x6x1 : Shape := ⟨4, ![12, 1, 6, 1]⟩
abbrev S12x6x128x256 : Shape := ⟨4, ![12, 6, 128, 256]⟩

abbrev nBuf : Space → Nat
  | .hbm => 82
  | .vmem => 9
  | .smem => 0
  | _ => 0

abbrev bufTy : (tb : Table) → Fin (tcTables nBuf tb) → BufTy
  | .hbm, ⟨0, _⟩ => ⟨S256x6x128, .bf16⟩
  | .hbm, ⟨1, _⟩ => ⟨S12x16384x6x128, .fp8e4m3⟩
  | .hbm, ⟨2, _⟩ => ⟨S12x6, .f32⟩
  | .hbm, ⟨3, _⟩ => ⟨S12x16384x6x128, .fp8e4m3⟩
  | .hbm, ⟨4, _⟩ => ⟨S12x6, .f32⟩
  | .hbm, ⟨5, _⟩ => ⟨S12x256x6x128, .bf16⟩
  | .hbm, ⟨6, _⟩ => ⟨S12x6x256, .f32⟩
  | .hbm, ⟨7, _⟩ => ⟨S12x256x6x128, .bf16⟩
  | .hbm, ⟨8, _⟩ => ⟨S12x256x6x128, .f32⟩
  | .hbm, ⟨9, _⟩ => ⟨S12x256x6x128, .f32⟩
  | .hbm, ⟨10, _⟩ => ⟨S_, .f32⟩
  | .hbm, ⟨11, _⟩ => ⟨S12x256x6, .f32⟩
  | .hbm, ⟨12, _⟩ => ⟨S12x256x6x1, .f32⟩
  | .hbm, ⟨13, _⟩ => ⟨S_, .f32⟩
  | .hbm, ⟨14, _⟩ => ⟨S12x256x6x1, .f32⟩
  | .hbm, ⟨15, _⟩ => ⟨S12x256x6x1, .f32⟩
  | .hbm, ⟨16, _⟩ => ⟨S12x16384x6x128, .bf16⟩
  | .hbm, ⟨17, _⟩ => ⟨S12x16384x6x128, .bf16⟩
  | .hbm, ⟨18, _⟩ => ⟨S12x256x6x128, .fp8e5m2⟩
  | .hbm, ⟨19, _⟩ => ⟨S12x256x6x128, .f32⟩
  | .hbm, ⟨20, _⟩ => ⟨S12x256x6x1, .f32⟩
  | .hbm, ⟨21, _⟩ => ⟨S12x256x6, .f32⟩
  | .hbm, ⟨22, _⟩ => ⟨S_, .f32⟩
  | .hbm, ⟨23, _⟩ => ⟨S12x6, .f32⟩
  | .hbm, ⟨24, _⟩ => ⟨S12x6, .f32⟩
  | .hbm, ⟨25, _⟩ => ⟨S12x6x1x1, .f32⟩
  | .hbm, ⟨26, _⟩ => ⟨S6x12x16384x256, .f32⟩
  | .hbm, ⟨27, _⟩ => ⟨S12x6x256x16384, .f32⟩
  | .hbm, ⟨28, _⟩ => ⟨S12x6x256x16384, .f32⟩
  | .hbm, ⟨29, _⟩ => ⟨S12x6x256x16384, .f32⟩
  | .hbm, ⟨30, _⟩ => ⟨S12x6x256x1, .f32⟩
  | .hbm, ⟨31, _⟩ => ⟨S12x6x256x16384, .f32⟩
  | .hbm, ⟨32, _⟩ => ⟨S12x6x256x16384, .f32⟩
  | .hbm, ⟨33, _⟩ => ⟨S12x6x256x16384, .f32⟩
  | .hbm, ⟨34, _⟩ => ⟨S12x6x256, .f32⟩
  | .hbm, ⟨35, _⟩ => ⟨S12x6x1, .f32⟩
  | .hbm, ⟨36, _⟩ => ⟨S12x6x256, .f32⟩
  | .hbm, ⟨37, _⟩ => ⟨S12x6x256, .f32⟩
  | .hbm, ⟨38, _⟩ => ⟨S12x6x256x1, .f32⟩
  | .hbm, ⟨39, _⟩ => ⟨S12x256x6x128, .bf16⟩
  | .hbm, ⟨40, _⟩ => ⟨S12x6x256x16384, .f32⟩
  | .hbm, ⟨41, _⟩ => ⟨S12x6x256x16384, .f32⟩
  | .hbm, ⟨42, _⟩ => ⟨S12x6x256x16384, .f32⟩
  | .hbm, ⟨43, _⟩ => ⟨S12x256x6x1, .f32⟩
  | .hbm, ⟨44, _⟩ => ⟨S12x256x6x128, .f32⟩
  | .hbm, ⟨45, _⟩ => ⟨S12x256x6x128, .f32⟩
  | .hbm, ⟨46, _⟩ => ⟨S12x256x6x128, .f32⟩
  | .hbm, ⟨47, _⟩ => ⟨S12x256x6x128, .f32⟩
  | .hbm, ⟨48, _⟩ => ⟨S_, .f32⟩
  | .hbm, ⟨49, _⟩ => ⟨S12x256x6, .f32⟩
  | .hbm, ⟨50, _⟩ => ⟨S12x6x256, .f32⟩
  | .hbm, ⟨51, _⟩ => ⟨S12x6x256x1, .f32⟩
  | .hbm, ⟨52, _⟩ => ⟨S12x6x256x16384, .f32⟩
  | .hbm, ⟨53, _⟩ => ⟨S12x6x256x16384, .f32⟩
  | .hbm, ⟨54, _⟩ => ⟨S12x6x256x16384, .f32⟩
  | .hbm, ⟨55, _⟩ => ⟨S12x6x256x16384, .bf16⟩
  | .hbm, ⟨56, _⟩ => ⟨S12x256x6x128, .bf16⟩
  | .hbm, ⟨57, _⟩ => ⟨S12x256x6x1, .f32⟩
  | .hbm, ⟨58, _⟩ => ⟨S12x256x6x1, .bf16⟩
  | .hbm, ⟨59, _⟩ => ⟨S12x256x6x128, .bf16⟩
  | .hbm, ⟨60, _⟩ => ⟨S12x256x6x128, .bf16⟩
  | .hbm, ⟨61, _⟩ => ⟨S12x6x256x16384, .bf16⟩
  | .hbm, ⟨62, _⟩ => ⟨S12x6x128x16384, .f32⟩
  | .hbm, ⟨63, _⟩ => ⟨S12x16384x6x128, .f32⟩
  | .hbm, ⟨64, _⟩ => ⟨S12x16384x6x128, .bf16⟩
  | .hbm, ⟨65, _⟩ => ⟨S6x128x12x16384, .f32⟩
  | .hbm, ⟨66, _⟩ => ⟨S12x16384x6x128, .f32⟩
  | .hbm, ⟨67, _⟩ => ⟨S_, .f32⟩
  | .hbm, ⟨68, _⟩ => ⟨S12x16384x6x128, .f32⟩
  | .hbm, ⟨69, _⟩ => ⟨S12x16384x6x128, .f32⟩
  | .hbm, ⟨70, _⟩ => ⟨S12x16384x6x128, .bf16⟩
  | .hbm, ⟨71, _⟩ => ⟨S_, .f32⟩
  | .hbm, ⟨72, _⟩ => ⟨S12x6, .f32⟩
  | .hbm, ⟨73, _⟩ => ⟨S12x6, .f32⟩
  | .hbm, ⟨74, _⟩ => ⟨S12x1x6x1, .f32⟩
  | .hbm, ⟨75, _⟩ => ⟨S12x6x128x256, .f32⟩
  | .hbm, ⟨76, _⟩ => ⟨S12x256x6x128, .f32⟩
  | .hbm, ⟨77, _⟩ => ⟨S12x256x6x128, .f32⟩
  | .hbm, ⟨78, _⟩ => ⟨S12x256x6x128, .f32⟩
  | .hbm, ⟨79, _⟩ => ⟨S_, .f32⟩
  | .hbm, ⟨80, _⟩ => ⟨S256x6x128, .f32⟩
  | .hbm, ⟨81, _⟩ => ⟨S256x6x128, .bf16⟩
  | .local _ .vmem, ⟨0, _⟩ => ⟨S12x16384x6x128, .fp8e4m3⟩
  | .local _ .vmem, ⟨1, _⟩ => ⟨S12x16384x6x128, .fp8e4m3⟩
  | .local _ .vmem, ⟨2, _⟩ => ⟨S12x256x6x128, .f32⟩
  | .local _ .vmem, ⟨3, _⟩ => ⟨S12x256x6x1, .f32⟩
  | .local _ .vmem, ⟨4, _⟩ => ⟨S12x16384x6x128, .bf16⟩
  | .local _ .vmem, ⟨5, _⟩ => ⟨S12x16384x6x128, .bf16⟩
  | .local _ .vmem, ⟨6, _⟩ => ⟨S12x256x6x128, .fp8e5m2⟩
  | .local _ .vmem, ⟨7, _⟩ => ⟨S12x256x6x128, .f32⟩
  | .local _ .vmem, ⟨8, _⟩ => ⟨S12x256x6x1, .f32⟩
  | _, _ => ⟨S256x6x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_3 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_4 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S12x16384x6x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x16384x6x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x256x6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x256x6x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x16384x6x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x16384x6x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x256x6x128 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x256x6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x256x6x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.K.Vals.lean ====
/- What one grid point computes, as functions of the blocks it reads: the quantised gradient of the output and its
   per-row scale, the five tables made from them at the first key block of a sequence, and one key block's rows of the
   gradients of k and v and its share of the gradient of the queries, chunk by chunk of 256 keys. -/
module

public import proofs.«01_k».proof.Proof.Gen.Kernel.Skeleton
public import proofs.«01_k».proof.Proof.Gen.Kernel.Frame
@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The entry of the table of the keys' (values') scales at the point. -/
def entryOf (x : Vec F S72 .f32) (i : grid0.Coords) : F .f32 :=
  View.ld (Val := Elt F) (e' := .f32) x (Rect.unit (s := S72) (k0_off1 i) S1.size (k0_off1_inb i)) (Shape.Idx.first (show 0 < S1.numel by rw [numel1_S1]; exact Nat.one_pos))

/-- The biased exponent of the rows' scales, and the test for a zero row. -/
def expoB (x7 : Vec F S1x1x256x128 .bf16) : IVec S256x1 32 := k0_pay11 (k0_pay8 x7) (k0_pay9 x7) (k0_pay10 x7)
/-- Whether a row's biased exponent is stated as zero. -/
def zeroB (x7 : Vec F S1x1x256x128 .bf16) : IVec S256x1 1 := k0_pay12 (k0_pay7 x7) (k0_pay8 x7) (k0_pay9 x7) (k0_pay10 x7)
/-- The rows' scales. -/
def scB (x7 : Vec F S1x1x256x128 .bf16) : FVec F S256x1 .f32 := k0_pay14 (F := F) (expoB x7) (zeroB x7) 126#32
/-- The rows' codes. -/
def cdB (x7 : Vec F S1x1x256x128 .bf16) : FVec F S256x128 .fp8e5m2 := k0_pay15 (k0_pay6 x7) (expoB x7) (zeroB x7) 126#32
/-- The codes as the block of the codes' array. -/
def codeB (x7 : Vec F S1x1x256x128 .bf16) : Vec F S1x1x256x128 .fp8e5m2 := k0_pay16 (k0_pay6 x7) (expoB x7) (zeroB x7) 126#32
/-- The scales as the block of the scales' array. -/
def scaleB (x7 : Vec F S1x1x256x128 .bf16) : Vec F S1x1x1x256 .f32 := k0_pay17 (F := F) (expoB x7) (zeroB x7) 126#32
/-- The queries transposed. -/
def s0B (x2 : Vec F S1x256x128 .bf16) : Vec F S128x256 .bf16 := k0_pay20 x2
/-- The dequantised gradient of the output, transposed. -/
def s1B (x7 : Vec F S1x1x256x128 .bf16) : Vec F S128x256 .bf16 := k0_pay19 (scB x7) (cdB x7)
/-- The rows' log sums in units of log 2, along the lanes. -/
def s2B (x6 : Vec F S1x1x1x256 .f32) : Vec F S256x128 .f32 := k0_pay21 x6
/-- The rows' scales by the values' scale, along the lanes. -/
def s3B (vs : F .f32) (x7 : Vec F S1x1x256x128 .bf16) : Vec F S256x128 .f32 := k0_pay22 vs (scB x7)
/-- The rows' sums of the gradient by the output, along the lanes. -/
def s4B (x5 : Vec F S1x1x256x128 .bf16) (x7 : Vec F S1x1x256x128 .bf16) : Vec F S256x128 .f32 :=
  k0_pay24 (k0_pay23 (k0_pay18 (k0_pay6 x7) (expoB x7) (zeroB x7) 126#32 x5))

/-- One chunk's rows of the gradient of v. -/
def dvC (ks : F .f32) (q : Vec F S1x256x128 .bf16) (do_ : Vec F S128x256 .bf16) (l : Vec F S256x128 .f32) (k : Vec F S1x1x256x128 .fp8e4m3) : Vec F S1x1x256x128 .bf16 :=
  k0_pay41 (k0_pay26 ks) (k0_pay27 q) do_ (k0_pay37 k) l
/-- One chunk's rows of the gradient of k. -/
def dkC (ks : F .f32) (q : Vec F S1x256x128 .bf16) (qt : Vec F S128x256 .bf16) (cd : Vec F S1x1x256x128 .fp8e5m2) (l c2 dl : Vec F S256x128 .f32) (k v : Vec F S1x1x256x128 .fp8e4m3) : Vec F S1x1x256x128 .bf16 :=
  k0_pay42 (k0_pay26 ks) (k0_pay27 q) qt (k0_pay28 cd) (k0_pay37 k) (k0_pay38 v) l c2 dl
/-- One chunk's gradient of the scores. -/
def dsC (ks : F .f32) (q : Vec F S1x256x128 .bf16) (cd : Vec F S1x1x256x128 .fp8e5m2) (l c2 dl : Vec F S256x128 .f32) (k v : Vec F S1x1x256x128 .fp8e4m3) : FVec F S256x256 .bf16 :=
  k0_pay40 (k0_pay26 ks) (k0_pay27 q) (k0_pay28 cd) (k0_pay37 k) (k0_pay38 v) l c2 dl
/-- One chunk's share of the gradient of the queries. -/
def dqC (ks : F .f32) (q : Vec F S1x256x128 .bf16) (cd : Vec F S1x1x256x128 .fp8e5m2) (l c2 dl : Vec F S256x128 .f32) (k v : Vec F S1x1x256x128 .fp8e4m3) : FVec F S256x128 .f32 :=
  matmul dot_S256x256_S256x128_S256x128_1_0_0_1_n_n none (dsC ks q cd l c2 dl k v) (extf .bf16 (k0_pay37 k) bitsLt_fp8e4m3_bf16) (constant S256x128 .f32 0x00000000#32)

/-- Chunk 0 of the block of keys. -/
abbrev ch0 : Rect S1x1x2048x128 := Rect.unit (s := S1x1x2048x128) ![0, 0, 0, 0] S1x1x256x128.size inb_S1x1x2048x128_S1x1x256x128_0_0_0_0
/-- Chunk 1 of the block of keys. -/
abbrev ch1 : Rect S1x1x2048x128 := Rect.unit (s := S1x1x2048x128) ![0, 0, 256, 0] S1x1x256x128.size inb_S1x1x2048x128_S1x1x256x128_0_0_256_0
/-- Chunk 2 of the block of keys. -/
abbrev ch2 : Rect S1x1x2048x128 := Rect.unit (s := S1x1x2048x128) ![0, 0, 512, 0] S1x1x256x128.size inb_S1x1x2048x128_S1x1x256x128_0_0_512_0
/-- Chunk 3 of the block of keys. -/
abbrev ch3 : Rect S1x1x2048x128 := Rect.unit (s := S1x1x2048x128) ![0, 0, 768, 0] S1x1x256x128.size inb_S1x1x2048x128_S1x1x256x128_0_0_768_0
/-- Chunk 4 of the block of keys. -/
abbrev ch4 : Rect S1x1x2048x128 := Rect.unit (s := S1x1x2048x128) ![0, 0, 1024, 0] S1x1x256x128.size inb_S1x1x2048x128_S1x1x256x128_0_0_1024_0
/-- Chunk 5 of the block of keys. -/
abbrev ch5 : Rect S1x1x2048x128 := Rect.unit (s := S1x1x2048x128) ![0, 0, 1280, 0] S1x1x256x128.size inb_S1x1x2048x128_S1x1x256x128_0_0_1280_0
/-- Chunk 6 of the block of keys. -/
abbrev ch6 : Rect S1x1x2048x128 := Rect.unit (s := S1x1x2048x128) ![0, 0, 1536, 0] S1x1x256x128.size inb_S1x1x2048x128_S1x1x256x128_0_0_1536_0
/-- Chunk 7 of the block of keys. -/
abbrev ch7 : Rect S1x1x2048x128 := Rect.unit (s := S1x1x2048x128) ![0, 0, 1792, 0] S1x1x256x128.size inb_S1x1x2048x128_S1x1x256x128_0_0_1792_0

/-- The block's rows of the gradient of v, from the tables. -/
def dvT (ks : F .f32) (q : Vec F S1x256x128 .bf16) (do_ : Vec F S128x256 .bf16) (l : Vec F S256x128 .f32) (x3 : Vec F S1x1x2048x128 .fp8e4m3) : Vec F S1x1x2048x128 .bf16 :=
  View.canon [⟨ch7, dvC ks q do_ l (View.ld x3 ch7)⟩, ⟨ch6, dvC ks q do_ l (View.ld x3 ch6)⟩, ⟨ch5, dvC ks q do_ l (View.ld x3 ch5)⟩, ⟨ch4, dvC ks q do_ l (View.ld x3 ch4)⟩, ⟨ch3, dvC ks q do_ l (View.ld x3 ch3)⟩, ⟨ch2, dvC ks q do_ l (View.ld x3 ch2)⟩, ⟨ch1, dvC ks q do_ l (View.ld x3 ch1)⟩, ⟨ch0, dvC ks q do_ l (View.ld x3 ch0)⟩]
/-- The block's rows of the gradient of k, from the tables. -/
def dkT (ks : F .f32) (q : Vec F S1x256x128 .bf16) (qt : Vec F S128x256 .bf16) (cd : Vec F S1x1x256x128 .fp8e5m2) (l c2 dl : Vec F S256x128 .f32) (x3 x4 : Vec F S1x1x2048x128 .fp8e4m3) : Vec F S1x1x2048x128 .bf16 :=
  View.canon [⟨ch7, dkC ks q qt cd l c2 dl (View.ld x3 ch7) (View.ld x4 ch7)⟩, ⟨ch6, dkC ks q qt cd l c2 dl (View.ld x3 ch6) (View.ld x4 ch6)⟩, ⟨ch5, dkC ks q qt cd l c2 dl (View.ld x3 ch5) (View.ld x4 ch5)⟩, ⟨ch4, dkC ks q qt cd l c2 dl (View.ld x3 ch4) (View.ld x4 ch4)⟩, ⟨ch3, dkC ks q qt cd l c2 dl (View.ld x3 ch3) (View.ld x4 ch3)⟩, ⟨ch2, dkC ks q qt cd l c2 dl (View.ld x3 ch2) (View.ld x4 ch2)⟩, ⟨ch1, dkC ks q qt cd l c2 dl (View.ld x3 ch1) (View.ld x4 ch1)⟩, ⟨ch0, dkC ks q qt cd l c2 dl (View.ld x3 ch0) (View.ld x4 ch0)⟩]
/-- The sum over the block's chunks of the shares of the gradient of the queries, added to what was held. -/
def accT (ks : F .f32) (q : Vec F S1x256x128 .bf16) (cd : Vec F S1x1x256x128 .fp8e5m2) (l c2 dl : Vec F S256x128 .f32) (x3 x4 : Vec F S1x1x2048x128 .fp8e4m3) (a : Vec F S256x128 .f32) : Vec F S256x128 .f32 :=
  shapeCast S256x128 (addf a (addf (addf (addf (addf (addf (addf (addf (dqC ks q cd l c2 dl (View.ld x3 ch0) (View.ld x4 ch0)) (dqC ks q cd l c2 dl (View.ld x3 ch1) (View.ld x4 ch1))) (dqC ks q cd l c2 dl (View.ld x3 ch2) (View.ld x4 ch2))) (dqC ks q cd l c2 dl (View.ld x3 ch3) (View.ld x4 ch3))) (dqC ks q cd l c2 dl (View.ld x3 ch4) (View.ld x4 ch4))) (dqC ks q cd l c2 dl (View.ld x3 ch5) (View.ld x4 ch5))) (dqC ks q cd l c2 dl (View.ld x3 ch6) (View.ld x4 ch6))) (dqC ks q cd l c2 dl (View.ld x3 ch7) (View.ld x4 ch7)))) shapeCasts_S256x128_S256x128

/-- The block's rows of the gradient of v at a point. -/
def dvB (i : grid0.Coords) (x0 : Vec F S72 .f32) (x2 : Vec F S1x256x128 .bf16) (x3 : Vec F S1x1x2048x128 .fp8e4m3) (x6 : Vec F S1x1x1x256 .f32) (x7 : Vec F S1x1x256x128 .bf16) : Vec F S1x1x2048x128 .bf16 :=
  dvT (entryOf x0 i) x2 (s1B x7) (s2B x6) x3
/-- The block's rows of the gradient of k at a point. -/
def dkB (i : grid0.Coords) (x0 x1 : Vec F S72 .f32) (x2 : Vec F S1x256x128 .bf16) (x3 x4 : Vec F S1x1x2048x128 .fp8e4m3) (x5 : Vec F S1x1x256x128 .bf16) (x6 : Vec F S1x1x1x256 .f32) (x7 : Vec F S1x1x256x128 .bf16) : Vec F S1x1x2048x128 .bf16 :=
  dkT (entryOf x0 i) x2 (s0B x2) (codeB x7) (s2B x6) (s3B (entryOf x1 i) x7) (s4B x5 x7) x3 x4
/-- The sequence's running gradient of the queries after a point, from what it was before. -/
def accB (i : grid0.Coords) (x0 x1 : Vec F S72 .f32) (x2 : Vec F S1x256x128 .bf16) (x3 x4 : Vec F S1x1x2048x128 .fp8e4m3) (x5 : Vec F S1x1x256x128 .bf16) (x6 : Vec F S1x1x1x256 .f32) (x7 : Vec F S1x1x256x128 .bf16) (a : Vec F S256x128 .f32) : Vec F S256x128 .f32 :=
  accT (entryOf x0 i) x2 (codeB x7) (s2B x6) (s3B (entryOf x1 i) x7) (s4B x5 x7) x3 x4 a

section
variable {ks ks' : F .f32} {q q' : Vec F S1x256x128 .bf16} {qt qt' do_ do_' : Vec F S128x256 .bf16} {cd cd' : Vec F S1x1x256x128 .fp8e5m2} {l l' c2 c2' dl dl' a a' : Vec F S256x128 .f32} {x3 x4 : Vec F S1x1x2048x128 .fp8e4m3}
  {k0 k1 k2 k3 k4 k5 k6 k7 : Vec F S1x1x256x128 .fp8e4m3}
  {v0 v1 v2 v3 v4 v5 v6 v7 : Vec F S1x1x256x128 .fp8e4m3}

/-- The eight chunks a run stored into the rows of the gradient of v, their arguments known. -/
theorem dvT_of (h0 : ks = ks') (h1 : q = q') (h2 : do_ = do_') (h3 : l = l')
    (hk0 : k0 = (View.ld x3 ch0)) (hk1 : k1 = (View.ld x3 ch1)) (hk2 : k2 = (View.ld x3 ch2)) (hk3 : k3 = (View.ld x3 ch3)) (hk4 : k4 = (View.ld x3 ch4)) (hk5 : k5 = (View.ld x3 ch5)) (hk6 : k6 = (View.ld x3 ch6)) (hk7 : k7 = (View.ld x3 ch7)) :
    View.canon [⟨ch7, dvC ks q do_ l k7⟩, ⟨ch6, dvC ks q do_ l k6⟩, ⟨ch5, dvC ks q do_ l k5⟩, ⟨ch4, dvC ks q do_ l k4⟩, ⟨ch3, dvC ks q do_ l k3⟩, ⟨ch2, dvC ks q do_ l k2⟩, ⟨ch1, dvC ks q do_ l k1⟩, ⟨ch0, dvC ks q do_ l k0⟩] = dvT ks' q' do_' l' x3 := by
  subst h0 h1 h2 h3 hk0 hk1 hk2 hk3 hk4 hk5 hk6 hk7; rfl
/-- The eight chunks a run stored into the rows of the gradient of k, their arguments known. -/
theorem dkT_of (h0 : ks = ks') (h1 : q = q') (h2 : qt = qt') (h3 : cd = cd') (h4 : l = l') (h5 : c2 = c2') (h6 : dl = dl')
    (hk0 : k0 = (View.ld x3 ch0)) (hk1 : k1 = (View.ld x3 ch1)) (hk2 : k2 = (View.ld x3 ch2)) (hk3 : k3 = (View.ld x3 ch3)) (hk4 : k4 = (View.ld x3 ch4)) (hk5 : k5 = (View.ld x3 ch5)) (hk6 : k6 = (View.ld x3 ch6)) (hk7 : k7 = (View.ld x3 ch7))
    (hv0 : v0 = (View.ld x4 ch0)) (hv1 : v1 = (View.ld x4 ch1)) (hv2 : v2 = (View.ld x4 ch2)) (hv3 : v3 = (View.ld x4 ch3)) (hv4 : v4 = (View.ld x4 ch4)) (hv5 : v5 = (View.ld x4 ch5)) (hv6 : v6 = (View.ld x4 ch6)) (hv7 : v7 = (View.ld x4 ch7)) :
    View.canon [⟨ch7, dkC ks q qt cd l c2 dl k7 v7⟩, ⟨ch6, dkC ks q qt cd l c2 dl k6 v6⟩, ⟨ch5, dkC ks q qt cd l c2 dl k5 v5⟩, ⟨ch4, dkC ks q qt cd l c2 dl k4 v4⟩, ⟨ch3, dkC ks q qt cd l c2 dl k3 v3⟩, ⟨ch2, dkC ks q qt cd l c2 dl k2 v2⟩, ⟨ch1, dkC ks q qt cd l c2 dl k1 v1⟩, ⟨ch0, dkC ks q qt cd l c2 dl k0 v0⟩] = dkT ks' q' qt' cd' l' c2' dl' x3 x4 := by
  subst h0 h1 h2 h3 h4 h5 h6 hk0 hk1 hk2 hk3 hk4 hk5 hk6 hk7 hv0 hv1 hv2 hv3 hv4 hv5 hv6 hv7; rfl
/-- The eight chunks a run summed, their arguments known. -/
theorem accT_of (h0 : ks = ks') (h1 : q = q') (h3 : cd = cd') (h4 : l = l') (h5 : c2 = c2') (h6 : dl = dl')
    (hk0 : k0 = (View.ld x3 ch0)) (hk1 : k1 = (View.ld x3 ch1)) (hk2 : k2 = (View.ld x3 ch2)) (hk3 : k3 = (View.ld x3 ch3)) (hk4 : k4 = (View.ld x3 ch4)) (hk5 : k5 = (View.ld x3 ch5)) (hk6 : k6 = (View.ld x3 ch6)) (hk7 : k7 = (View.ld x3 ch7))
    (hv0 : v0 = (View.ld x4 ch0)) (hv1 : v1 = (View.ld x4 ch1)) (hv2 : v2 = (View.ld x4 ch2)) (hv3 : v3 = (View.ld x4 ch3)) (hv4 : v4 = (View.ld x4 ch4)) (hv5 : v5 = (View.ld x4 ch5)) (hv6 : v6 = (View.ld x4 ch6)) (hv7 : v7 = (View.ld x4 ch7)) (ha : a = a') :
    shapeCast S256x128 (addf a (addf (addf (addf (addf (addf (addf (addf (dqC ks q cd l c2 dl k0 v0) (dqC ks q cd l c2 dl k1 v1)) (dqC ks q cd l c2 dl k2 v2)) (dqC ks q cd l c2 dl k3 v3)) (dqC ks q cd l c2 dl k4 v4)) (dqC ks q cd l c2 dl k5 v5)) (dqC ks q cd l c2 dl k6 v6)) (dqC ks q cd l c2 dl k7 v7))) shapeCasts_S256x128_S256x128 = accT ks' q' cd' l' c2' dl' x3 x4 a' := by
  subst h0 h1 h3 h4 h5 h6 ha hk0 hk1 hk2 hk3 hk4 hk5 hk6 hk7 hv0 hv1 hv2 hv3 hv4 hv5 hv6 hv7; rfl
end

end Cert.Kernel.Gen

end
-- ==== Proof.K.Tail.lean ====
/- The end of the body: at a sequence's last block the finished gradient of the queries is written out and summed. -/
module

public import proofs.«01_k».proof.Proof.Gen.Kernel.Skeleton
public import proofs.«01_k».proof.Proof.Gen.Kernel.Frame
public import proofs.«01_k».proof.Proof.K.Vals
public import Idealize.ShloMosaic.Lib.VecWindow
@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .smem S72 .f32) (harg3 : arg3.IsWhole) (arg4 : Memref sig .tc .smem S72 .f32) (harg4 : arg4.IsWhole) (arg5 : Memref sig .tc .vmem S1x256x128 .bf16) (harg5 : arg5.IsWhole) (arg6 : Memref sig .tc .vmem S1x1x2048x128 .fp8e4m3) (harg6 : arg6.IsWhole) (arg7 : Memref sig .tc .vmem S1x1x2048x128 .fp8e4m3) (harg7 : arg7.IsWhole) (arg8 : Memref sig .tc .vmem S1x1x256x128 .bf16) (harg8 : arg8.IsWhole) (arg9 : Memref sig .tc .vmem S1x1x1x256 .f32) (harg9 : arg9.IsWhole) (arg10 : Memref sig .tc .vmem S1x1x256x128 .bf16) (harg10 : arg10.IsWhole) (arg11 : Memref sig .tc .vmem S1x256x128 .bf16) (harg11 : arg11.IsWhole) (arg12 : Memref sig .tc .vmem S1x1x256x128 .f32) (harg12 : arg12.IsWhole) (arg13 : Memref sig .tc .vmem S1x1x2048x128 .bf16) (harg13 : arg13.IsWhole) (arg14 : Memref sig .tc .vmem S1x1x2048x128 .bf16) (harg14 : arg14.IsWhole) (arg15 : Memref sig .tc .vmem S1x1x256x128 .fp8e5m2) (harg15 : arg15.IsWhole) (arg16 : Memref sig .tc .vmem S1x1x1x256 .f32) (harg16 : arg16.IsWhole) (arg17 : Memref sig .tc .vmem S128x256 .bf16) (harg17 : arg17.IsWhole) (arg18 : Memref sig .tc .vmem S128x256 .bf16) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole)

/-- The end of the body, at a sequence's last block: the finished gradient of the queries is written out and added
    to the sum over the sequences. -/
noncomputable def tailProg (v3 : F .f32) : Prog (TpuEff nD τ sig (Elt F) Λ₀ .tc) PUnit := do
  let arg1 : BitVec 32 := BitVec.ofNat 32 (i 1).val
  if k0_h2 : k0_cond2 i = 1#1 then do
    let v339 : Vec F S256x128 .f32 ← Prog.lift (.load arg22 (Rect.unit (s := S256x128) ![0, 0] S256x128.size inb_S256x128_S256x128_0_0).toLoadRect (View.loadsAt_vmem h_S256x128))
    let v342 : Vec F S1x1x256x128 .f32 ← Prog.lift (.load arg12 (Rect.unit (s := S1x1x256x128) ![0, 0, 0, 0] S1x1x256x128.size inb_S1x1x256x128_S1x1x256x128_0_0_0_0).toLoadRect (View.loadsAt_vmem h_S1x1x256x128))
    Prog.lift (.store arg12 (Rect.unit (s := S1x1x256x128) ![0, 0, 0, 0] S1x1x256x128.size inb_S1x1x256x128_S1x1x256x128_0_0_0_0) (k0_pay2 v3 v339) Finset.univ (View.stores_vmem_bits_univ h_S1x1x256x128 rfl) (.inl rfl))
    let v345 : BitVec 1 := Scalar.cmpi .eq arg1 0#32
    let v346 : BitVec 32 := Scalar.extui v345
    let v347 : BitVec 1 := Scalar.cmpi .ne v346 0#32
    if k0_h3 : v347 = 1#1 then do
      let v354 : Vec F S256x128 .f32 ← Prog.lift (.load arg23 (Rect.unit (s := S256x128) ![0, 0] S256x128.size inb_S256x128_S256x128_0_0).toLoadRect (View.loadsAt_vmem h_S256x128))
      Prog.lift (.store arg23 (Rect.unit (s := S256x128) ![0, 0] S256x128.size inb_S256x128_S256x128_0_0) (k0_pay3 v3 v339) Finset.univ (View.stores_vmem_bits_univ h_S256x128 rfl) (.inl rfl))
      pure ⟨⟩
    else do
      pure ⟨⟩
    let v348 : BitVec 1 := Scalar.cmpi .sgt arg1 0#32
    let v349 : BitVec 32 := Scalar.extui v348
    let v350 : BitVec 1 := Scalar.cmpi .ne v349 0#32
    if k0_h4 : v350 = 1#1 then do
      let v354 : Vec F S256x128 .f32 ← Prog.lift (.load arg23 (Rect.unit (s := S256x128) ![0, 0] S256x128.size inb_S256x128_S256x128_0_0).toLoadRect (View.loadsAt_vmem h_S256x128))
      let v356 : Vec F S256x128 .f32 ← Prog.lift (.load arg23 (Rect.unit (s := S256x128) ![0, 0] S256x128.size inb_S256x128_S256x128_0_0).toLoadRect (View.loadsAt_vmem h_S256x128))
      Prog.lift (.store arg23 (Rect.unit (s := S256x128) ![0, 0] S256x128.size inb_S256x128_S256x128_0_0) (k0_pay4 v3 v339 v354) Finset.univ (View.stores_vmem_bits_univ h_S256x128 rfl) (.inl rfl))
      pure ⟨⟩
    else do
      pure ⟨⟩
    if k0_h5 : k0_cond5 i = 1#1 then do
      let v354 : Vec F S256x128 .f32 ← Prog.lift (.load arg23 (Rect.unit (s := S256x128) ![0, 0] S256x128.size inb_S256x128_S256x128_0_0).toLoadRect (View.loadsAt_vmem h_S256x128))
      let v356 : Vec F S1x256x128 .bf16 ← Prog.lift (.load arg11 (Rect.unit (s := S1x256x128) ![0, 0, 0] S1x256x128.size inb_S1x256x128_S1x256x128_0_0_0).toLoadRect (View.loadsAt_vmem h_S1x256x128))
      Prog.lift (.store arg11 (Rect.unit (s := S1x256x128) ![0, 0, 0] S1x256x128.size inb_S1x256x128_S1x256x128_0_0_0) (k0_pay5 v354) Finset.univ (View.stores_vmem h_S1x256x128 (harg11.storeExact_slice rfl _ packedbf16_S1x256x128_S1x256x128_0_0_0) (fun _ => rfl)) (.inl rfl))
      pure ⟨⟩
    else do
      pure ⟨⟩
    pure ⟨⟩
  else do
    pure ⟨⟩
  pure ⟨⟩

/-- The point is a sequence's last block. -/
def isLast (i : grid0.Coords) : Prop := k0_cond2 i = 1#1
/-- The point is in the first sequence. -/
def isFst (i : grid0.Coords) : Prop := Scalar.cmpi .ne (Scalar.extui (Scalar.cmpi .eq (BitVec.ofNat 32 (i 1).val) 0#32) : BitVec 32) 0#32 = 1#1
/-- The point is in a later sequence. -/
def isNxt (i : grid0.Coords) : Prop := Scalar.cmpi .ne (Scalar.extui (Scalar.cmpi .sgt (BitVec.ofNat 32 (i 1).val) 0#32) : BitVec 32) 0#32 = 1#1
/-- The point is in the last sequence. -/
def isEnd (i : grid0.Coords) : Prop := k0_cond5 i = 1#1

open Classical in
/-- The sum over the sequences after a last block. -/
def totB (v3 : F .f32) (acc tot : Vec F S256x128 .f32) : Vec F S256x128 .f32 :=
  if isFst i then k0_pay3 v3 acc else k0_pay4 v3 acc tot

section
open Classical in
include harg12 harg22 harg23 in
set_option maxHeartbeats 1000000 in
/-- The end of the body from the running gradient `acc` and the sum `tot`. -/
theorem tail_run (hx : isFst i ↔ ¬ isNxt i) (v3' v3 : F .f32) (hv : v3' = v3) (acc tot : Vec F S256x128 .f32) (x8 : Vec F S1x256x128 .bf16) (x9 : Vec F S1x1x256x128 .f32) (E : Set ℕ) (K : PUnit → sProp 𝕄) :
    iprop(owns (c : Thread nD τ) arg11 fullShare x8 ∗ owns (c : Thread nD τ) arg12 fullShare x9 ∗ owns (c : Thread nD τ) arg22 fullShare acc ∗ owns (c : Thread nD τ) arg23 fullShare tot
      ∗ (iprop(owns (c : Thread nD τ) arg11 fullShare (if isLast i ∧ isEnd i then k0_pay5 (totB i v3 acc tot) else x8) ∗ owns (c : Thread nD τ) arg12 fullShare (if isLast i then k0_pay2 v3 acc else x9) ∗ owns (c : Thread nD τ) arg22 fullShare acc ∗ owns (c : Thread nD τ) arg23 fullShare (if isLast i then totB i v3 acc tot else tot)) -∗ K ⟨⟩))
    ⊢ wp frame (wpE (defs₀ (F := F)) Variants.none c none) E (tailProg i arg11 harg11 arg12 arg22 arg23 v3') K := by
  subst hv
  have hn : isFst i ∨ isNxt i := (Classical.em (isFst i)).imp_right fun h => Classical.not_not.mp fun h' => h (hx.mpr h')
  by_cases h1 : isLast i <;> by_cases h2 : isFst i <;> by_cases h4 : isEnd i <;> by_cases h3 : isNxt i
  all_goals first | exact absurd h3 (hx.mp h2) | exact absurd (hn.resolve_left h2) h3 | skip
  all_goals
    have c1 := h1; have c2 := h2; have c3 := h3; have c4 := h4
    unfold isLast at c1; unfold isFst at c2; unfold isNxt at c3; unfold isEnd at c4
    simp only [totB, h1, h2, h4, _root_.and_true, _root_.and_false, _root_.false_and, _root_.and_self, if_true, if_false]
    unfold tailProg owns
    iintro ⟨⟨%f0, %hf0, H0⟩, ⟨%f1, %hf1, H1⟩, ⟨%f2, %hf2, H2⟩, ⟨%f3, %hf3, H3⟩, Hk⟩
    obtain rfl := harg11.eq_unread hf0; obtain rfl := harg12.eq_unread hf1; obtain rfl := harg22.eq_unread hf2; obtain rfl := harg23.eq_unread hf3
    have hacc : View.readAt (Elt F) arg22.view (Rect.unit (s := S256x128) ![0, 0] S256x128.size inb_S256x128_S256x128_0_0).toLoadRect (harg22.unread acc) = acc := (View.readAt_full _ _ _).trans (harg22.read_unread _)
    have htot : View.readAt (Elt F) arg23.view (Rect.unit (s := S256x128) ![0, 0] S256x128.size inb_S256x128_S256x128_0_0).toLoadRect (harg23.unread tot) = tot := (View.readAt_full _ _ _).trans (harg23.read_unread _)
    sl_exec (disch := first | sl_exact c1 | sl_exact c2 | sl_exact c3 | sl_exact c4)
    sl_step
    iapply Hk
    isplitl [H0]
    · iexists _; isplitr; swap; · iexact H0
      ipureintro
      first
        | with_reducible exact harg11.read_unread _
        | exact (View.read_writes_full _ _ _ _ _).trans (congrArg k0_pay5 (View.readCov_full _ _ _ _ _))
    isplitl [H1]
    · iexists _; isplitr; swap; · iexact H1
      ipureintro
      first
        | with_reducible exact harg12.read_unread _
        | exact View.read_writes_full _ _ _ _ _
    isplitl [H2]
    · iexists _; isplitr; swap; · iexact H2
      ipureintro; exact harg22.read_unread _
    iexists _; isplitr; swap; · iexact H3
    ipureintro
    first
      | with_reducible exact harg23.read_unread _
      | exact View.read_writes_full _ _ _ _ _
end

end Cert.Kernel.Gen

end
-- ==== Proof.K.Run.lean ====
/- One grid point's run of the body: what every buffer holds after it, from the blocks it reads and what the scratch
   held before; at a sequence's first block of keys, and at a later one. -/
module

public import proofs.«01_k».proof.Proof.Gen.Kernel.Skeleton
public import proofs.«01_k».proof.Proof.Gen.Kernel.Frame
public import proofs.«01_k».proof.Proof.K.Tail
@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .smem S72 .f32) (harg3 : arg3.IsWhole) (arg4 : Memref sig .tc .smem S72 .f32) (harg4 : arg4.IsWhole) (arg5 : Memref sig .tc .vmem S1x256x128 .bf16) (harg5 : arg5.IsWhole) (arg6 : Memref sig .tc .vmem S1x1x2048x128 .fp8e4m3) (harg6 : arg6.IsWhole) (arg7 : Memref sig .tc .vmem S1x1x2048x128 .fp8e4m3) (harg7 : arg7.IsWhole) (arg8 : Memref sig .tc .vmem S1x1x256x128 .bf16) (harg8 : arg8.IsWhole) (arg9 : Memref sig .tc .vmem S1x1x1x256 .f32) (harg9 : arg9.IsWhole) (arg10 : Memref sig .tc .vmem S1x1x256x128 .bf16) (harg10 : arg10.IsWhole) (arg11 : Memref sig .tc .vmem S1x256x128 .bf16) (harg11 : arg11.IsWhole) (arg12 : Memref sig .tc .vmem S1x1x256x128 .f32) (harg12 : arg12.IsWhole) (arg13 : Memref sig .tc .vmem S1x1x2048x128 .bf16) (harg13 : arg13.IsWhole) (arg14 : Memref sig .tc .vmem S1x1x2048x128 .bf16) (harg14 : arg14.IsWhole) (arg15 : Memref sig .tc .vmem S1x1x256x128 .fp8e5m2) (harg15 : arg15.IsWhole) (arg16 : Memref sig .tc .vmem S1x1x1x256 .f32) (harg16 : arg16.IsWhole) (arg17 : Memref sig .tc .vmem S128x256 .bf16) (harg17 : arg17.IsWhole) (arg18 : Memref sig .tc .vmem S128x256 .bf16) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole)

variable (x0 : Vec F S72 .f32) (x1 : Vec F S72 .f32) (x2 : Vec F S1x256x128 .bf16) (x3 : Vec F S1x1x2048x128 .fp8e4m3) (x4 : Vec F S1x1x2048x128 .fp8e4m3) (x5 : Vec F S1x1x256x128 .bf16) (x6 : Vec F S1x1x1x256 .f32) (x7 : Vec F S1x1x256x128 .bf16) (x8 : Vec F S1x256x128 .bf16) (x9 : Vec F S1x1x256x128 .f32) (a tot : Vec F S256x128 .f32)

open Classical in
/-- What the body leaves: the inputs as they were, the blocks written, the tables of the sequence, the running
    gradient of the queries from `a` before the point, the sum over the sequences from `tot`. -/
def heldAfter : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
    ∗ owns (c : Thread nD τ) arg13 fullShare (dkB i x0 x1 x2 x3 x4 x5 x6 x7) ∗ owns (c : Thread nD τ) arg14 fullShare (dvB i x0 x2 x3 x6 x7) ∗ owns (c : Thread nD τ) arg15 fullShare (codeB x7) ∗ owns (c : Thread nD τ) arg16 fullShare (scaleB x7) ∗ owns (c : Thread nD τ) arg17 fullShare (s0B x2) ∗ owns (c : Thread nD τ) arg18 fullShare (s1B x7) ∗ owns (c : Thread nD τ) arg19 fullShare (s2B x6) ∗ owns (c : Thread nD τ) arg20 fullShare (s3B (entryOf x1 i) x7) ∗ owns (c : Thread nD τ) arg21 fullShare (s4B x5 x7)
    ∗ owns (c : Thread nD τ) arg11 fullShare (if isLast i ∧ isEnd i then k0_pay5 (totB i (entryOf x0 i) (accB i x0 x1 x2 x3 x4 x5 x6 x7 a) tot) else x8) ∗ owns (c : Thread nD τ) arg12 fullShare (if isLast i then k0_pay2 (entryOf x0 i) (accB i x0 x1 x2 x3 x4 x5 x6 x7 a) else x9)
    ∗ owns (c : Thread nD τ) arg22 fullShare (accB i x0 x1 x2 x3 x4 x5 x6 x7 a) ∗ owns (c : Thread nD τ) arg23 fullShare (if isLast i then totB i (entryOf x0 i) (accB i x0 x1 x2 x3 x4 x5 x6 x7 a) tot else tot))

set_option maxHeartbeats 1000000 in
/-- The body at a sequence's first block. -/
theorem run_first (hc0 : k0_cond1 i = 1#1) (hx : isFst i ↔ ¬ isNxt i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare tot
      ∗ (heldAfter c i arg3 arg4 arg5 arg6 arg7 arg8 arg9 arg10 arg11 arg12 arg13 arg14 arg15 arg16 arg17 arg18 arg19 arg20 arg21 arg22 arg23 x0 x1 x2 x3 x4 x5 x6 x7 x8 x9 k0_pay25 tot -∗ K ⟨⟩))
    ⊢ wp frame (wpE (defs₀ (F := F)) Variants.none c none) E (cc0_latent_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    simp only [cc0_latent_attn_bwd_eq_skeleton]; unfold cc0_latent_attn_bwd_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg23.eq_unread hfs6
    have hks : View.readAt (Elt F) arg3.view (Rect.unit (s := S72) (k0_off1 i) S1.size (k0_off1_inb i)).toLoadRect (harg3.unread x0) (Shape.Idx.first (show 0 < S1.numel by rw [numel1_S1]; exact Nat.one_pos)) = entryOf x0 i := congrFun ((View.readAt_eq_ld _ _ _).trans (congrArg (fun z => View.ld z _) (harg3.read_unread _))) _
    have hvs : View.readAt (Elt F) arg4.view (Rect.unit (s := S72) (k0_off1 i) S1.size (k0_off1_inb i)).toLoadRect (harg4.unread x1) (Shape.Idx.first (show 0 < S1.numel by rw [numel1_S1]; exact Nat.one_pos)) = entryOf x1 i := congrFun ((View.readAt_eq_ld _ _ _).trans (congrArg (fun z => View.ld z _) (harg4.read_unread _))) _
    have h2 : View.readAt (Elt F) arg5.view (Rect.unit (s := S1x256x128) ![0, 0, 0] S1x256x128.size inb_S1x256x128_S1x256x128_0_0_0).toLoadRect (harg5.unread x2) = x2 := (View.readAt_full _ _ _).trans (harg5.read_unread _)
    have h5 : View.readAt (Elt F) arg8.view (Rect.unit (s := S1x1x256x128) ![0, 0, 0, 0] S1x1x256x128.size inb_S1x1x256x128_S1x1x256x128_0_0_0_0).toLoadRect (harg8.unread x5) = x5 := (View.readAt_full _ _ _).trans (harg8.read_unread _)
    have h6 : View.readAt (Elt F) arg9.view (Rect.unit (s := S1x1x1x256) ![0, 0, 0, 0] S1x1x1x256.size inb_S1x1x1x256_S1x1x1x256_0_0_0_0).toLoadRect (harg9.unread x6) = x6 := (View.readAt_full _ _ _).trans (harg9.read_unread _)
    have h7 : View.readAt (Elt F) arg10.view (Rect.unit (s := S1x1x256x128) ![0, 0, 0, 0] S1x1x256x128.size inb_S1x1x256x128_S1x1x256x128_0_0_0_0).toLoadRect (harg10.unread x7) = x7 := (View.readAt_full _ _ _).trans (harg10.read_unread _)
    have hk0 : View.readAt (Elt F) arg6.view ch0.toLoadRect (harg6.unread x3) = View.ld x3 ch0 := (View.readAt_eq_ld _ _ _).trans (congrArg (fun z => View.ld z _) (harg6.read_unread _))
    have hv0 : View.readAt (Elt F) arg7.view ch0.toLoadRect (harg7.unread x4) = View.ld x4 ch0 := (View.readAt_eq_ld _ _ _).trans (congrArg (fun z => View.ld z _) (harg7.read_unread _))
    have hk1 : View.readAt (Elt F) arg6.view ch1.toLoadRect (harg6.unread x3) = View.ld x3 ch1 := (View.readAt_eq_ld _ _ _).trans (congrArg (fun z => View.ld z _) (harg6.read_unread _))
    have hv1 : View.readAt (Elt F) arg7.view ch1.toLoadRect (harg7.unread x4) = View.ld x4 ch1 := (View.readAt_eq_ld _ _ _).trans (congrArg (fun z => View.ld z _) (harg7.read_unread _))
    have hk2 : View.readAt (Elt F) arg6.view ch2.toLoadRect (harg6.unread x3) = View.ld x3 ch2 := (View.readAt_eq_ld _ _ _).trans (congrArg (fun z => View.ld z _) (harg6.read_unread _))
    have hv2 : View.readAt (Elt F) arg7.view ch2.toLoadRect (harg7.unread x4) = View.ld x4 ch2 := (View.readAt_eq_ld _ _ _).trans (congrArg (fun z => View.ld z _) (harg7.read_unread _))
    have hk3 : View.readAt (Elt F) arg6.view ch3.toLoadRect (harg6.unread x3) = View.ld x3 ch3 := (View.readAt_eq_ld _ _ _).trans (congrArg (fun z => View.ld z _) (harg6.read_unread _))
    have hv3 : View.readAt (Elt F) arg7.view ch3.toLoadRect (harg7.unread x4) = View.ld x4 ch3 := (View.readAt_eq_ld _ _ _).trans (congrArg (fun z => View.ld z _) (harg7.read_unread _))
    have hk4 : View.readAt (Elt F) arg6.view ch4.toLoadRect (harg6.unread x3) = View.ld x3 ch4 := (View.readAt_eq_ld _ _ _).trans (congrArg (fun z => View.ld z _) (harg6.read_unread _))
    have hv4 : View.readAt (Elt F) arg7.view ch4.toLoadRect (harg7.unread x4) = View.ld x4 ch4 := (View.readAt_eq_ld _ _ _).trans (congrArg (fun z => View.ld z _) (harg7.read_unread _))
    have hk5 : View.readAt (Elt F) arg6.view ch5.toLoadRect (harg6.unread x3) = View.ld x3 ch5 := (View.readAt_eq_ld _ _ _).trans (congrArg (fun z => View.ld z _) (harg6.read_unread _))
    have hv5 : View.readAt (Elt F) arg7.view ch5.toLoadRect (harg7.unread x4) = View.ld x4 ch5 := (View.readAt_eq_ld _ _ _).trans (congrArg (fun z => View.ld z _) (harg7.read_unread _))
    have hk6 : View.readAt (Elt F) arg6.view ch6.toLoadRect (harg6.unread x3) = View.ld x3 ch6 := (View.readAt_eq_ld _ _ _).trans (congrArg (fun z => View.ld z _) (harg6.read_unread _))
    have hv6 : View.readAt (Elt F) arg7.view ch6.toLoadRect (harg7.unread x4) = View.ld x4 ch6 := (View.readAt_eq_ld _ _ _).trans (congrArg (fun z => View.ld z _) (harg7.read_unread _))
    have hk7 : View.readAt (Elt F) arg6.view ch7.toLoadRect (harg6.unread x3) = View.ld x3 ch7 := (View.readAt_eq_ld _ _ _).trans (congrArg (fun z => View.ld z _) (harg6.read_unread _))
    have hv7 : View.readAt (Elt F) arg7.view ch7.toLoadRect (harg7.unread x4) = View.ld x4 ch7 := (View.readAt_eq_ld _ _ _).trans (congrArg (fun z => View.ld z _) (harg7.read_unread _))
    set_option sl_exec.stopBefore "k0_cond2" in sl_exec (disch := first | sl_exact hc0)
    have e0 : arg17.view.readCov [⟨(Rect.unit (s := S128x256) ![0, 0] S128x256.size inb_S128x256_S128x256_0_0), (s0B x2)⟩] (Rect.unit (s := S128x256) ![0, 0] S128x256.size inb_S128x256_S128x256_0_0).toLoadRect = (s0B x2) := View.readCov_full _ _ _ _ _
    have e1 : arg18.view.readCov [⟨(Rect.unit (s := S128x256) ![0, 0] S128x256.size inb_S128x256_S128x256_0_0), (s1B x7)⟩] (Rect.unit (s := S128x256) ![0, 0] S128x256.size inb_S128x256_S128x256_0_0).toLoadRect = (s1B x7) := View.readCov_full _ _ _ _ _
    have e2 : arg19.view.readCov [⟨(Rect.unit (s := S256x128) ![0, 0] S256x128.size inb_S256x128_S256x128_0_0), (s2B x6)⟩] (Rect.unit (s := S256x128) ![0, 0] S256x128.size inb_S256x128_S256x128_0_0).toLoadRect = (s2B x6) := View.readCov_full _ _ _ _ _
    have e3 : arg20.view.readCov [⟨(Rect.unit (s := S256x128) ![0, 0] S256x128.size inb_S256x128_S256x128_0_0), s3B (View.readAt (Elt F) arg4.view (Rect.unit (s := S72) (k0_off1 i) S1.size (k0_off1_inb i)).toLoadRect (harg4.unread x1) (Shape.Idx.first (show 0 < S1.numel by rw [numel1_S1]; exact Nat.one_pos))) x7⟩] (Rect.unit (s := S256x128) ![0, 0] S256x128.size inb_S256x128_S256x128_0_0).toLoadRect = s3B (entryOf x1 i) x7 := (View.readCov_full _ _ _ _ _).trans (congrArg (fun z => s3B z x7) hvs)
    have e4 : arg21.view.readCov [⟨(Rect.unit (s := S256x128) ![0, 0] S256x128.size inb_S256x128_S256x128_0_0), (s4B x5 x7)⟩] (Rect.unit (s := S256x128) ![0, 0] S256x128.size inb_S256x128_S256x128_0_0).toLoadRect = (s4B x5 x7) := View.readCov_full _ _ _ _ _
    have e5' : ∀ z : Vec F S256x128 .f32, arg22.view.readCov [⟨(Rect.unit (s := S256x128) ![0, 0] S256x128.size inb_S256x128_S256x128_0_0), z⟩] (Rect.unit (s := S256x128) ![0, 0] S256x128.size inb_S256x128_S256x128_0_0).toLoadRect = z := fun z => View.readCov_full _ _ _ _ _
    have e5 := e5' k0_pay25
    have ec : arg15.view.readCov [⟨(Rect.unit (s := S1x1x256x128) ![0, 0, 0, 0] S1x1x256x128.size inb_S1x1x256x128_S1x1x256x128_0_0_0_0), (codeB x7)⟩] (Rect.unit (s := S1x1x256x128) ![0, 0, 0, 0] S1x1x256x128.size inb_S1x1x256x128_S1x1x256x128_0_0_0_0).toLoadRect = (codeB x7) := View.readCov_full _ _ _ _ _
    have edv := dvT_of hks (rfl : x2 = x2) e1 e2 rfl rfl rfl rfl rfl rfl rfl rfl (x3 := x3)
    have edk := dkT_of hks (rfl : x2 = x2) e0 ec e2 e3 e4 rfl rfl rfl rfl rfl rfl rfl rfl rfl rfl rfl rfl rfl rfl rfl rfl (x3 := x3) (x4 := x4)
    have eac := accT_of hks (rfl : x2 = x2) ec e2 e3 e4 rfl rfl rfl rfl rfl rfl rfl rfl rfl rfl rfl rfl rfl rfl rfl rfl e5 (x3 := x3) (x4 := x4)
    iapply (tail_run c i arg11 harg11 arg12 harg12 arg22 harg22 arg23 harg23 hx _ _ hks (accB i x0 x1 x2 x3 x4 x5 x6 x7 k0_pay25) tot x8 x9 E K)
    unfold owns heldAfter
    isplitl [H8]
    · iexists _; isplitr; swap; · iexact H8
      ipureintro; exact harg11.read_unread _
    isplitl [H9]
    · iexists _; isplitr; swap; · iexact H9
      ipureintro; exact harg12.read_unread _
    isplitl [HS5]
    · iexists _; isplitr; swap; · iexact HS5
      ipureintro; exact (View.read_writes_full _ _ _ _ _).trans eac
    isplitl [HS6]
    · iexists _; isplitr; swap; · iexact HS6
      ipureintro; exact harg23.read_unread _
    iintro ⟨⟨%g0, %hg0, G0⟩, ⟨%g1, %hg1, G1⟩, ⟨%g2, %hg2, G2⟩, ⟨%g3, %hg3, G3⟩⟩
    iapply Hk
    unfold owns
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact harg9.read_unread _
    isplitl [H7]
    · iexists _; isplitr; swap; · iexact H7
      ipureintro; exact harg10.read_unread _
    isplitl [H10]
    · iexists _; isplitr; swap; · iexact H10
      ipureintro; refine (View.read_writes_eq_canon (Val := Elt F) arg13.view f10 _ (View.cover_of_tiled _ S1x1x256x128.size ?hc)).trans ?he; (case hc => rfl); (case he => exact edk)
    isplitl [H11]
    · iexists _; isplitr; swap; · iexact H11
      ipureintro; refine (View.read_writes_eq_canon (Val := Elt F) arg14.view f11 _ (View.cover_of_tiled _ S1x1x256x128.size ?hc)).trans ?he; (case hc => rfl); (case he => exact edv)
    isplitl [H12]
    · iexists _; isplitr; swap; · iexact H12
      ipureintro; exact View.read_writes_full _ _ _ _ _
    isplitl [H13]
    · iexists _; isplitr; swap; · iexact H13
      ipureintro; exact View.read_writes_full _ _ _ _ _
    isplitl [HS0]
    · iexists _; isplitr; swap; · iexact HS0
      ipureintro; exact View.read_writes_full _ _ _ _ _
    isplitl [HS1]
    · iexists _; isplitr; swap; · iexact HS1
      ipureintro; exact View.read_writes_full _ _ _ _ _
    isplitl [HS2]
    · iexists _; isplitr; swap; · iexact HS2
      ipureintro; exact View.read_writes_full _ _ _ _ _
    isplitl [HS3]
    · iexists _; isplitr; swap; · iexact HS3
      ipureintro; exact (View.read_writes_full _ _ _ _ _).trans (congrArg (fun z => s3B z x7) hvs)
    isplitl [HS4]
    · iexists _; isplitr; swap; · iexact HS4
      ipureintro; exact View.read_writes_full _ _ _ _ _
    isplitl [G0]
    · iexists _; isplitr; swap; · iexact G0
      ipureintro; exact hg0
    isplitl [G1]
    · iexists _; isplitr; swap; · iexact G1
      ipureintro; exact hg1
    isplitl [G2]
    · iexists _; isplitr; swap; · iexact G2
      ipureintro; exact hg2
    iexists _; isplitr; swap; · iexact G3
    ipureintro; exact hg3
set_option maxHeartbeats 1000000 in
/-- The body at a later block of the same sequence and row block. -/
theorem run_later (hc0 : ¬ k0_cond1 i = 1#1) (hx : isFst i ↔ ¬ isNxt i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ owns (c : Thread nD τ) arg15 fullShare (codeB x7) ∗ owns (c : Thread nD τ) arg16 fullShare (scaleB x7) ∗ owns (c : Thread nD τ) arg17 fullShare (s0B x2) ∗ owns (c : Thread nD τ) arg18 fullShare (s1B x7) ∗ owns (c : Thread nD τ) arg19 fullShare (s2B x6) ∗ owns (c : Thread nD τ) arg20 fullShare (s3B (entryOf x1 i) x7) ∗ owns (c : Thread nD τ) arg21 fullShare (s4B x5 x7) ∗ owns (c : Thread nD τ) arg22 fullShare a ∗ owns (c : Thread nD τ) arg23 fullShare tot
      ∗ (heldAfter c i arg3 arg4 arg5 arg6 arg7 arg8 arg9 arg10 arg11 arg12 arg13 arg14 arg15 arg16 arg17 arg18 arg19 arg20 arg21 arg22 arg23 x0 x1 x2 x3 x4 x5 x6 x7 x8 x9 a tot -∗ K ⟨⟩))
    ⊢ wp frame (wpE (defs₀ (F := F)) Variants.none c none) E (cc0_latent_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    simp only [cc0_latent_attn_bwd_eq_skeleton]; unfold cc0_latent_attn_bwd_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg15.eq_unread hf12; obtain rfl := harg16.eq_unread hf13; obtain rfl := harg17.eq_unread hfs0; obtain rfl := harg18.eq_unread hfs1; obtain rfl := harg19.eq_unread hfs2; obtain rfl := harg20.eq_unread hfs3; obtain rfl := harg21.eq_unread hfs4; obtain rfl := harg22.eq_unread hfs5; obtain rfl := harg23.eq_unread hfs6
    have hks : View.readAt (Elt F) arg3.view (Rect.unit (s := S72) (k0_off1 i) S1.size (k0_off1_inb i)).toLoadRect (harg3.unread x0) (Shape.Idx.first (show 0 < S1.numel by rw [numel1_S1]; exact Nat.one_pos)) = entryOf x0 i := congrFun ((View.readAt_eq_ld _ _ _).trans (congrArg (fun z => View.ld z _) (harg3.read_unread _))) _
    have hvs : View.readAt (Elt F) arg4.view (Rect.unit (s := S72) (k0_off1 i) S1.size (k0_off1_inb i)).toLoadRect (harg4.unread x1) (Shape.Idx.first (show 0 < S1.numel by rw [numel1_S1]; exact Nat.one_pos)) = entryOf x1 i := congrFun ((View.readAt_eq_ld _ _ _).trans (congrArg (fun z => View.ld z _) (harg4.read_unread _))) _
    have h2 : View.readAt (Elt F) arg5.view (Rect.unit (s := S1x256x128) ![0, 0, 0] S1x256x128.size inb_S1x256x128_S1x256x128_0_0_0).toLoadRect (harg5.unread x2) = x2 := (View.readAt_full _ _ _).trans (harg5.read_unread _)
    have h5 : View.readAt (Elt F) arg8.view (Rect.unit (s := S1x1x256x128) ![0, 0, 0, 0] S1x1x256x128.size inb_S1x1x256x128_S1x1x256x128_0_0_0_0).toLoadRect (harg8.unread x5) = x5 := (View.readAt_full _ _ _).trans (harg8.read_unread _)
    have h6 : View.readAt (Elt F) arg9.view (Rect.unit (s := S1x1x1x256) ![0, 0, 0, 0] S1x1x1x256.size inb_S1x1x1x256_S1x1x1x256_0_0_0_0).toLoadRect (harg9.unread x6) = x6 := (View.readAt_full _ _ _).trans (harg9.read_unread _)
    have h7 : View.readAt (Elt F) arg10.view (Rect.unit (s := S1x1x256x128) ![0, 0, 0, 0] S1x1x256x128.size inb_S1x1x256x128_S1x1x256x128_0_0_0_0).toLoadRect (harg10.unread x7) = x7 := (View.readAt_full _ _ _).trans (harg10.read_unread _)
    have hk0 : View.readAt (Elt F) arg6.view ch0.toLoadRect (harg6.unread x3) = View.ld x3 ch0 := (View.readAt_eq_ld _ _ _).trans (congrArg (fun z => View.ld z _) (harg6.read_unread _))
    have hv0 : View.readAt (Elt F) arg7.view ch0.toLoadRect (harg7.unread x4) = View.ld x4 ch0 := (View.readAt_eq_ld _ _ _).trans (congrArg (fun z => View.ld z _) (harg7.read_unread _))
    have hk1 : View.readAt (Elt F) arg6.view ch1.toLoadRect (harg6.unread x3) = View.ld x3 ch1 := (View.readAt_eq_ld _ _ _).trans (congrArg (fun z => View.ld z _) (harg6.read_unread _))
    have hv1 : View.readAt (Elt F) arg7.view ch1.toLoadRect (harg7.unread x4) = View.ld x4 ch1 := (View.readAt_eq_ld _ _ _).trans (congrArg (fun z => View.ld z _) (harg7.read_unread _))
    have hk2 : View.readAt (Elt F) arg6.view ch2.toLoadRect (harg6.unread x3) = View.ld x3 ch2 := (View.readAt_eq_ld _ _ _).trans (congrArg (fun z => View.ld z _) (harg6.read_unread _))
    have hv2 : View.readAt (Elt F) arg7.view ch2.toLoadRect (harg7.unread x4) = View.ld x4 ch2 := (View.readAt_eq_ld _ _ _).trans (congrArg (fun z => View.ld z _) (harg7.read_unread _))
    have hk3 : View.readAt (Elt F) arg6.view ch3.toLoadRect (harg6.unread x3) = View.ld x3 ch3 := (View.readAt_eq_ld _ _ _).trans (congrArg (fun z => View.ld z _) (harg6.read_unread _))
    have hv3 : View.readAt (Elt F) arg7.view ch3.toLoadRect (harg7.unread x4) = View.ld x4 ch3 := (View.readAt_eq_ld _ _ _).trans (congrArg (fun z => View.ld z _) (harg7.read_unread _))
    have hk4 : View.readAt (Elt F) arg6.view ch4.toLoadRect (harg6.unread x3) = View.ld x3 ch4 := (View.readAt_eq_ld _ _ _).trans (congrArg (fun z => View.ld z _) (harg6.read_unread _))
    have hv4 : View.readAt (Elt F) arg7.view ch4.toLoadRect (harg7.unread x4) = View.ld x4 ch4 := (View.readAt_eq_ld _ _ _).trans (congrArg (fun z => View.ld z _) (harg7.read_unread _))
    have hk5 : View.readAt (Elt F) arg6.view ch5.toLoadRect (harg6.unread x3) = View.ld x3 ch5 := (View.readAt_eq_ld _ _ _).trans (congrArg (fun z => View.ld z _) (harg6.read_unread _))
    have hv5 : View.readAt (Elt F) arg7.view ch5.toLoadRect (harg7.unread x4) = View.ld x4 ch5 := (View.readAt_eq_ld _ _ _).trans (congrArg (fun z => View.ld z _) (harg7.read_unread _))
    have hk6 : View.readAt (Elt F) arg6.view ch6.toLoadRect (harg6.unread x3) = View.ld x3 ch6 := (View.readAt_eq_ld _ _ _).trans (congrArg (fun z => View.ld z _) (harg6.read_unread _))
    have hv6 : View.readAt (Elt F) arg7.view ch6.toLoadRect (harg7.unread x4) = View.ld x4 ch6 := (View.readAt_eq_ld _ _ _).trans (congrArg (fun z => View.ld z _) (harg7.read_unread _))
    have hk7 : View.readAt (Elt F) arg6.view ch7.toLoadRect (harg6.unread x3) = View.ld x3 ch7 := (View.readAt_eq_ld _ _ _).trans (congrArg (fun z => View.ld z _) (harg6.read_unread _))
    have hv7 : View.readAt (Elt F) arg7.view ch7.toLoadRect (harg7.unread x4) = View.ld x4 ch7 := (View.readAt_eq_ld _ _ _).trans (congrArg (fun z => View.ld z _) (harg7.read_unread _))
    have e0 : View.readAt (Elt F) arg17.view (Rect.unit (s := S128x256) ![0, 0] S128x256.size inb_S128x256_S128x256_0_0).toLoadRect (harg17.unread (s0B x2)) = (s0B x2) := (View.readAt_full _ _ _).trans (harg17.read_unread _)
    have e1 : View.readAt (Elt F) arg18.view (Rect.unit (s := S128x256) ![0, 0] S128x256.size inb_S128x256_S128x256_0_0).toLoadRect (harg18.unread (s1B x7)) = (s1B x7) := (View.readAt_full _ _ _).trans (harg18.read_unread _)
    have e2 : View.readAt (Elt F) arg19.view (Rect.unit (s := S256x128) ![0, 0] S256x128.size inb_S256x128_S256x128_0_0).toLoadRect (harg19.unread (s2B x6)) = (s2B x6) := (View.readAt_full _ _ _).trans (harg19.read_unread _)
    have e3 : View.readAt (Elt F) arg20.view (Rect.unit (s := S256x128) ![0, 0] S256x128.size inb_S256x128_S256x128_0_0).toLoadRect (harg20.unread (s3B (entryOf x1 i) x7)) = (s3B (entryOf x1 i) x7) := (View.readAt_full _ _ _).trans (harg20.read_unread _)
    have e4 : View.readAt (Elt F) arg21.view (Rect.unit (s := S256x128) ![0, 0] S256x128.size inb_S256x128_S256x128_0_0).toLoadRect (harg21.unread (s4B x5 x7)) = (s4B x5 x7) := (View.readAt_full _ _ _).trans (harg21.read_unread _)
    have e5 : View.readAt (Elt F) arg22.view (Rect.unit (s := S256x128) ![0, 0] S256x128.size inb_S256x128_S256x128_0_0).toLoadRect (harg22.unread a) = a := (View.readAt_full _ _ _).trans (harg22.read_unread _)
    have ec : View.readAt (Elt F) arg15.view (Rect.unit (s := S1x1x256x128) ![0, 0, 0, 0] S1x1x256x128.size inb_S1x1x256x128_S1x1x256x128_0_0_0_0).toLoadRect (harg15.unread (codeB x7)) = (codeB x7) := (View.readAt_full _ _ _).trans (harg15.read_unread _)
    set_option sl_exec.stopBefore "k0_cond2" in sl_exec (disch := first | sl_exact hc0)
    have edv := dvT_of hks (rfl : x2 = x2) (rfl : s1B x7 = s1B x7) (rfl : s2B x6 = s2B x6) rfl rfl rfl rfl rfl rfl rfl rfl (x3 := x3)
    have edk := dkT_of hks (rfl : x2 = x2) (rfl : s0B x2 = s0B x2) (rfl : codeB x7 = codeB x7) (rfl : s2B x6 = s2B x6) (rfl : s3B (entryOf x1 i) x7 = s3B (entryOf x1 i) x7) (rfl : s4B x5 x7 = s4B x5 x7) rfl rfl rfl rfl rfl rfl rfl rfl rfl rfl rfl rfl rfl rfl rfl rfl (x3 := x3) (x4 := x4)
    have eac := accT_of hks (rfl : x2 = x2) (rfl : codeB x7 = codeB x7) (rfl : s2B x6 = s2B x6) (rfl : s3B (entryOf x1 i) x7 = s3B (entryOf x1 i) x7) (rfl : s4B x5 x7 = s4B x5 x7) rfl rfl rfl rfl rfl rfl rfl rfl rfl rfl rfl rfl rfl rfl rfl rfl (rfl : a = a) (x3 := x3) (x4 := x4)
    iapply (tail_run c i arg11 harg11 arg12 harg12 arg22 harg22 arg23 harg23 hx _ _ hks (accB i x0 x1 x2 x3 x4 x5 x6 x7 a) tot x8 x9 E K)
    unfold owns heldAfter
    isplitl [H8]
    · iexists _; isplitr; swap; · iexact H8
      ipureintro; exact harg11.read_unread _
    isplitl [H9]
    · iexists _; isplitr; swap; · iexact H9
      ipureintro; exact harg12.read_unread _
    isplitl [HS5]
    · iexists _; isplitr; swap; · iexact HS5
      ipureintro; exact (View.read_writes_full _ _ _ _ _).trans eac
    isplitl [HS6]
    · iexists _; isplitr; swap; · iexact HS6
      ipureintro; exact harg23.read_unread _
    iintro ⟨⟨%g0, %hg0, G0⟩, ⟨%g1, %hg1, G1⟩, ⟨%g2, %hg2, G2⟩, ⟨%g3, %hg3, G3⟩⟩
    iapply Hk
    unfold owns
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact harg9.read_unread _
    isplitl [H7]
    · iexists _; isplitr; swap; · iexact H7
      ipureintro; exact harg10.read_unread _
    isplitl [H10]
    · iexists _; isplitr; swap; · iexact H10
      ipureintro; refine (View.read_writes_eq_canon (Val := Elt F) arg13.view f10 _ (View.cover_of_tiled _ S1x1x256x128.size ?hc)).trans ?he; (case hc => rfl); (case he => exact edk)
    isplitl [H11]
    · iexists _; isplitr; swap; · iexact H11
      ipureintro; refine (View.read_writes_eq_canon (Val := Elt F) arg14.view f11 _ (View.cover_of_tiled _ S1x1x256x128.size ?hc)).trans ?he; (case hc => rfl); (case he => exact edv)
    isplitl [H12]
    · iexists _; isplitr; swap; · iexact H12
      ipureintro; exact harg15.read_unread _
    isplitl [H13]
    · iexists _; isplitr; swap; · iexact H13
      ipureintro; exact harg16.read_unread _
    isplitl [HS0]
    · iexists _; isplitr; swap; · iexact HS0
      ipureintro; exact harg17.read_unread _
    isplitl [HS1]
    · iexists _; isplitr; swap; · iexact HS1
      ipureintro; exact harg18.read_unread _
    isplitl [HS2]
    · iexists _; isplitr; swap; · iexact HS2
      ipureintro; exact harg19.read_unread _
    isplitl [HS3]
    · iexists _; isplitr; swap; · iexact HS3
      ipureintro; exact harg20.read_unread _
    isplitl [HS4]
    · iexists _; isplitr; swap; · iexact HS4
      ipureintro; exact harg21.read_unread _
    isplitl [G0]
    · iexists _; isplitr; swap; · iexact G0
      ipureintro; exact hg0
    isplitl [G1]
    · iexists _; isplitr; swap; · iexact G1
      ipureintro; exact hg1
    isplitl [G2]
    · iexists _; isplitr; swap; · iexact G2
      ipureintro; exact hg2
    iexists _; isplitr; swap; · iexact G3
    ipureintro; exact hg3

end Cert.Kernel.Gen

end
-- ==== Proof.K.Frame.lean ====
module

public import proofs.«01_k».proof.Proof.K.Run
public import Idealize.ShloMosaic.Lib.Claim
public import proofs.«01_k».proof.Proof.Gen.Kernel.Launch
public import proofs.«01_k».proof.Proof.Gen.Kernel.Points
public import proofs.«01_k».proof.Proof.Gen.Kernel.Skeleton
public import proofs.«01_k».proof.Proof.Gen.Kernel.Frame
@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the points -/

theorem first_iff (t : Fin cfg0.N) : k0_cond1 (grid0.coords t) = 1#1 ↔ t.val % 8 = 0 := by
  have ht : t.val < 576 := Nat.lt_of_lt_of_eq t.isLt N_0
  have e0 : (grid0.coords t 0).val = t.val / 96 % 6 := Pipeline.Grid.coords_val t 0 (by decide) rfl
  have e1 : (grid0.coords t 1).val = t.val / 8 % 12 := Pipeline.Grid.coords_val t 1 (by decide) rfl
  have e2 : (grid0.coords t 2).val = t.val / 1 % 8 := Pipeline.Grid.coords_val t 2 (by decide) rfl
  simp only [k0_cond1, e0, e1, e2]
  word_cmp

theorem isLast_iff (t : Fin cfg0.N) : isLast (grid0.coords t) ↔ t.val % 8 = 7 := by
  have ht : t.val < 576 := Nat.lt_of_lt_of_eq t.isLt N_0
  have e0 : (grid0.coords t 0).val = t.val / 96 % 6 := Pipeline.Grid.coords_val t 0 (by decide) rfl
  have e1 : (grid0.coords t 1).val = t.val / 8 % 12 := Pipeline.Grid.coords_val t 1 (by decide) rfl
  have e2 : (grid0.coords t 2).val = t.val / 1 % 8 := Pipeline.Grid.coords_val t 2 (by decide) rfl
  simp only [isLast, k0_cond2, e0, e1, e2]
  word_cmp

theorem isFst_iff (t : Fin cfg0.N) : isFst (grid0.coords t) ↔ t.val / 8 % 12 = 0 := by
  have ht : t.val < 576 := Nat.lt_of_lt_of_eq t.isLt N_0
  have e0 : (grid0.coords t 0).val = t.val / 96 % 6 := Pipeline.Grid.coords_val t 0 (by decide) rfl
  have e1 : (grid0.coords t 1).val = t.val / 8 % 12 := Pipeline.Grid.coords_val t 1 (by decide) rfl
  have e2 : (grid0.coords t 2).val = t.val / 1 % 8 := Pipeline.Grid.coords_val t 2 (by decide) rfl
  simp only [isFst, e0, e1, e2]
  word_cmp

theorem isNxt_iff (t : Fin cfg0.N) : isNxt (grid0.coords t) ↔ 0 < t.val / 8 % 12 := by
  have ht : t.val < 576 := Nat.lt_of_lt_of_eq t.isLt N_0
  have e0 : (grid0.coords t 0).val = t.val / 96 % 6 := Pipeline.Grid.coords_val t 0 (by decide) rfl
  have e1 : (grid0.coords t 1).val = t.val / 8 % 12 := Pipeline.Grid.coords_val t 1 (by decide) rfl
  have e2 : (grid0.coords t 2).val = t.val / 1 % 8 := Pipeline.Grid.coords_val t 2 (by decide) rfl
  simp only [isNxt, e0, e1, e2]
  word_cmp

theorem isEnd_iff (t : Fin cfg0.N) : isEnd (grid0.coords t) ↔ t.val / 8 % 12 = 11 := by
  have ht : t.val < 576 := Nat.lt_of_lt_of_eq t.isLt N_0
  have e0 : (grid0.coords t 0).val = t.val / 96 % 6 := Pipeline.Grid.coords_val t 0 (by decide) rfl
  have e1 : (grid0.coords t 1).val = t.val / 8 % 12 := Pipeline.Grid.coords_val t 1 (by decide) rfl
  have e2 : (grid0.coords t 2).val = t.val / 1 % 8 := Pipeline.Grid.coords_val t 2 (by decide) rfl
  simp only [isEnd, k0_cond5, e0, e1, e2]
  word_cmp

theorem fst_or_nxt (t : Fin cfg0.N) : isFst (grid0.coords t) ↔ ¬ isNxt (grid0.coords t) := by
  rw [isFst_iff, isNxt_iff]; omega

/-! ## Where the windows are idle -/

theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
theorem live_3 (t : Fin cfg0.N) : cfg0.idle 3 (grid0.coords t) = false := rfl
theorem live_4 (t : Fin cfg0.N) : cfg0.idle 4 (grid0.coords t) = false := rfl
theorem live_5 (t : Fin cfg0.N) : cfg0.idle 5 (grid0.coords t) = false := rfl
theorem live_6 (t : Fin cfg0.N) : cfg0.idle 6 (grid0.coords t) = false := rfl
theorem live_7 (t : Fin cfg0.N) : cfg0.idle 7 (grid0.coords t) = false := rfl
theorem live_10 (t : Fin cfg0.N) : cfg0.idle 10 (grid0.coords t) = false := rfl
theorem live_11 (t : Fin cfg0.N) : cfg0.idle 11 (grid0.coords t) = false := rfl
theorem idle_8 : ∀ t : Fin cfg0.N, t.val % 96 ≠ 95 → cfg0.idle 8 (grid0.coords t) = true := by decide +kernel
theorem live_8 : ∀ t : Fin cfg0.N, t.val % 96 = 95 → cfg0.idle 8 (grid0.coords t) = false := by decide +kernel
theorem idle_9 : ∀ t : Fin cfg0.N, t.val % 8 ≠ 7 → cfg0.idle 9 (grid0.coords t) = true := by decide +kernel
theorem live_9 : ∀ t : Fin cfg0.N, t.val % 8 = 7 → cfg0.idle 9 (grid0.coords t) = false := by decide +kernel
theorem idle_12 : ∀ t : Fin cfg0.N, t.val % 8 ≠ 0 → cfg0.idle 12 (grid0.coords t) = true := by decide +kernel
theorem live_12 : ∀ t : Fin cfg0.N, t.val % 8 = 0 → cfg0.idle 12 (grid0.coords t) = false := by decide +kernel
theorem idle_13 : ∀ t : Fin cfg0.N, t.val % 8 ≠ 0 → cfg0.idle 13 (grid0.coords t) = true := by decide +kernel
theorem live_13 : ∀ t : Fin cfg0.N, t.val % 8 = 0 → cfg0.idle 13 (grid0.coords t) = false := by decide +kernel

/-! ## The memrefs -/

abbrev ms0_0 (t : Fin cfg0.N) : Memref sig .tc .smem S72 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S72 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x256x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x2048x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x2048x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x256x128 .fp8e5m2 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x1x256 .f32 := win0_13.stage (cfg0.slots t 13)
abbrev hs0_13 (t : Fin cfg0.N) : (ms0_13 t).IsWhole := hstage0_13 ((cfg0.slots t 13).cast nbuf0_13)
abbrev scM0_0 : Memref sig .tc .vmem S128x256 .bf16 := Memref.whole cc0_scratch0
abbrev scM0_1 : Memref sig .tc .vmem S128x256 .bf16 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x128 .f32 := Memref.whole cc0_scratch6

/-- The scratch buffers at any contents and the generator register at some state. -/
theorem scratch_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-! ## What the running sums hold after each point -/

/-- One block's contribution to the gradient of the queries, added to `a`. -/
def accP (c : Dev nD) (t : Fin cfg0.N) (a : Vec F S256x128 .f32) : Vec F S256x128 .f32 :=
  accB (grid0.coords t) (iblk m c 0 t) (iblk m c 1 t) (iblk m c 2 t) (iblk m c 3 t) (iblk m c 4 t) (iblk m c 5 t) (iblk m c 6 t) (iblk m c 7 t) a

/-- The factor of the point's pair of a head and a sequence. -/
def ksAt (c : Dev nD) (t : Fin cfg0.N) : F .f32 := entryOf (iblk m c 0 t) (grid0.coords t)
/-- The same for the values. -/
def vsAt (c : Dev nD) (t : Fin cfg0.N) : F .f32 := entryOf (iblk m c 1 t) (grid0.coords t)

/-- The running gradient after point `n`: started anew at a sequence's first block. -/
def accAt (c : Dev nD) : (n : ℕ) → n < cfg0.N → Vec F S256x128 .f32
  | 0, hn => accP m c ⟨0, hn⟩ k0_pay25
  | n + 1, hn => accP m c ⟨n + 1, hn⟩ (if (n + 1) % 8 = 0 then k0_pay25 else accAt c n (Nat.lt_of_succ_lt hn))

/-- The sum over the sequences after point `n`: changed at a sequence's last block. -/
def totAt (c : Dev nD) : (n : ℕ) → n < cfg0.N → Vec F S256x128 .f32
  | 0, hn => k0_pay25
  | n + 1, hn => if (n + 1) % 8 = 7 then totB (grid0.coords ⟨n + 1, hn⟩) (ksAt m c ⟨n + 1, hn⟩) (accAt m c (n + 1) hn) (totAt c n (Nat.lt_of_succ_lt hn))
      else totAt c n (Nat.lt_of_succ_lt hn)

theorem accAt_first (c : Dev nD) (t : Fin cfg0.N) (h : t.val % 8 = 0) : accAt m c t.val t.isLt = accP m c t k0_pay25 := by
  obtain ⟨n, hn⟩ := t
  cases n with
  | zero => rfl
  | succ n => exact congrArg (accP m c ⟨n + 1, hn⟩) (if_pos h)
theorem accAt_later (c : Dev nD) (t : Fin cfg0.N) (h : ¬ t.val % 8 = 0) :
    accAt m c t.val t.isLt = accP m c t (accAt m c (t.val - 1) (Nat.lt_of_le_of_lt (Nat.sub_le _ _) t.isLt)) := by
  obtain ⟨n, hn⟩ := t
  cases n with
  | zero => exact absurd (Nat.zero_mod _) h
  | succ n => exact congrArg (accP m c ⟨n + 1, hn⟩) (if_neg h)
theorem totAt_last (c : Dev nD) (t : Fin cfg0.N) (h : t.val % 8 = 7) :
    totAt m c t.val t.isLt = totB (grid0.coords t) (ksAt m c t) (accAt m c t.val t.isLt) (totAt m c (t.val - 1) (Nat.lt_of_le_of_lt (Nat.sub_le _ _) t.isLt)) := by
  obtain ⟨n, hn⟩ := t
  cases n with
  | zero => exact absurd h (by decide : ¬ 0 % 8 = 7)
  | succ n => exact if_pos h
theorem totAt_other (c : Dev nD) (t : Fin cfg0.N) (h : ¬ t.val % 8 = 7) (h0 : t.val ≠ 0) :
    totAt m c t.val t.isLt = totAt m c (t.val - 1) (Nat.lt_of_le_of_lt (Nat.sub_le _ _) t.isLt) := by
  obtain ⟨n, hn⟩ := t
  cases n with
  | zero => exact absurd rfl h0
  | succ n => exact if_neg h

/-- The scratch before point `n`: within a sequence, what its first block stored and the running gradient; past a
    head's first sequence, the sum over the sequences so far. -/
def Inv (c : Dev nD) (n : ℕ) (y0 : Vec F S128x256 .bf16) (y1 : Vec F S128x256 .bf16) (y2 y3 y4 y5 y6 : Vec F S256x128 .f32) : Prop :=
  ∀ h : n < cfg0.N,
    (¬ n % 8 = 0 → y0 = s0B (iblk m c 2 ⟨n, h⟩) ∧ y1 = s1B (iblk m c 7 ⟨n, h⟩) ∧ y2 = s2B (iblk m c 6 ⟨n, h⟩)
      ∧ y3 = s3B (vsAt m c ⟨n, h⟩) (iblk m c 7 ⟨n, h⟩) ∧ y4 = s4B (iblk m c 5 ⟨n, h⟩) (iblk m c 7 ⟨n, h⟩)
      ∧ y5 = accAt m c (n - 1) (Nat.lt_of_le_of_lt (Nat.sub_le _ _) h))
    ∧ (8 ≤ n % 96 → y6 = totAt m c (n - 1) (Nat.lt_of_le_of_lt (Nat.sub_le _ _) h))

/-- The region's invariant before point `n`. -/
def PhiS (c : Dev nD) (n : ℕ) : sProp 𝕄 :=
  iprop(∃ y0, ∃ y1, ∃ y2, ∃ y3, ∃ y4, ∃ y5, ∃ y6, ⌜Inv m c n y0 y1 y2 y3 y4 y5 y6⌝ ∗ iprop(owns (c : Thread nD τ) scM0_0 fullShare y0 ∗ owns (c : Thread nD τ) scM0_1 fullShare y1 ∗ owns (c : Thread nD τ) scM0_2 fullShare y2 ∗ owns (c : Thread nD τ) scM0_3 fullShare y3 ∗ owns (c : Thread nD τ) scM0_4 fullShare y4 ∗ owns (c : Thread nD τ) scM0_5 fullShare y5 ∗ owns (c : Thread nD τ) scM0_6 fullShare y6) ∗ (∃ r, prngReg c r))

/-! ## The pipeline's proof data -/

/-- The arrays as the region finds them, and what each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay5 (totAt m c t.val t.isLt)
    | ⟨9, _⟩ => k0_pay2 (ksAt m c t) (accAt m c t.val t.isLt)
    | ⟨10, _⟩ => dkB (grid0.coords t) (iblk m c 0 t) (iblk m c 1 t) (iblk m c 2 t) (iblk m c 3 t) (iblk m c 4 t) (iblk m c 5 t) (iblk m c 6 t) (iblk m c 7 t)
    | ⟨11, _⟩ => dvB (grid0.coords t) (iblk m c 0 t) (iblk m c 2 t) (iblk m c 3 t) (iblk m c 6 t) (iblk m c 7 t)
    | ⟨12, _⟩ => codeB (iblk m c 7 t)
    | ⟨13, _⟩ => scaleB (iblk m c 7 t)
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = k0_pay5 (totAt m c t.val t.isLt) := by dsimp only [dats]
theorem after_9 (c : Dev nD) (t : Fin cfg0.N) : (dats m 0 c).after 9 t = k0_pay2 (ksAt m c t) (accAt m c t.val t.isLt) := by dsimp only [dats]
theorem after_10 (c : Dev nD) (t : Fin cfg0.N) : (dats m 0 c).after 10 t = dkB (grid0.coords t) (iblk m c 0 t) (iblk m c 1 t) (iblk m c 2 t) (iblk m c 3 t) (iblk m c 4 t) (iblk m c 5 t) (iblk m c 6 t) (iblk m c 7 t) := by dsimp only [dats]
theorem after_11 (c : Dev nD) (t : Fin cfg0.N) : (dats m 0 c).after 11 t = dvB (grid0.coords t) (iblk m c 0 t) (iblk m c 2 t) (iblk m c 3 t) (iblk m c 6 t) (iblk m c 7 t) := by dsimp only [dats]
theorem after_12 (c : Dev nD) (t : Fin cfg0.N) : (dats m 0 c).after 12 t = codeB (iblk m c 7 t) := by dsimp only [dats]
theorem after_13 (c : Dev nD) (t : Fin cfg0.N) : (dats m 0 c).after 13 t = scaleB (iblk m c 7 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The point before. -/
abbrev prv (t : Fin cfg0.N) : Fin cfg0.N := ⟨t.val - 1, Nat.lt_of_le_of_lt (Nat.sub_le _ _) t.isLt⟩

/-- Within a sequence window 2's block does not move. -/
theorem same_2 (c : Dev nD) (t : Fin cfg0.N) (h : ¬ t.val % 8 = 0) : iblk m c 2 t = iblk m c 2 (prv t) := by
  have hf : (cfg0.win 2).fetch t = false := by
    rw [← Bool.not_eq_true, fetch0_2]; omega
  have e := (dats m 0 c).before_of_pos 2 t (by omega) hf (iblk m c 2 t)
  rw [before_2, if_neg (by exact Bool.false_ne_true)] at e
  refine e.trans ?_
  unfold Dat.left
  rw [live_2]
  exact after_2 m c (prv t)
/-- Within a sequence window 5's block does not move. -/
theorem same_5 (c : Dev nD) (t : Fin cfg0.N) (h : ¬ t.val % 8 = 0) : iblk m c 5 t = iblk m c 5 (prv t) := by
  have hf : (cfg0.win 5).fetch t = false := by
    rw [← Bool.not_eq_true, fetch0_5]; omega
  have e := (dats m 0 c).before_of_pos 5 t (by omega) hf (iblk m c 5 t)
  rw [before_5, if_neg (by exact Bool.false_ne_true)] at e
  refine e.trans ?_
  unfold Dat.left
  rw [live_5]
  exact after_5 m c (prv t)
/-- Within a sequence window 6's block does not move. -/
theorem same_6 (c : Dev nD) (t : Fin cfg0.N) (h : ¬ t.val % 8 = 0) : iblk m c 6 t = iblk m c 6 (prv t) := by
  have hf : (cfg0.win 6).fetch t = false := by
    rw [← Bool.not_eq_true, fetch0_6]; omega
  have e := (dats m 0 c).before_of_pos 6 t (by omega) hf (iblk m c 6 t)
  rw [before_6, if_neg (by exact Bool.false_ne_true)] at e
  refine e.trans ?_
  unfold Dat.left
  rw [live_6]
  exact after_6 m c (prv t)
/-- Within a sequence window 7's block does not move. -/
theorem same_7 (c : Dev nD) (t : Fin cfg0.N) (h : ¬ t.val % 8 = 0) : iblk m c 7 t = iblk m c 7 (prv t) := by
  have hf : (cfg0.win 7).fetch t = false := by
    rw [← Bool.not_eq_true, fetch0_7]; omega
  have e := (dats m 0 c).before_of_pos 7 t (by omega) hf (iblk m c 7 t)
  rw [before_7, if_neg (by exact Bool.false_ne_true)] at e
  refine e.trans ?_
  unfold Dat.left
  rw [live_7]
  exact after_7 m c (prv t)
/-- Within a sequence window 12's buffer holds what its first block stored. -/
theorem held_12 (c : Dev nD) : ∀ (n : ℕ) (t : Fin cfg0.N), t.val = n → ¬ n % 8 = 0 → ∀ d, (dats m 0 c).before 12 t d = codeB (iblk m c 7 t) := by
  intro n
  induction n with
  | zero => intro t _ h; exact absurd (Nat.zero_mod _) h
  | succ n ih =>
    intro t ht h d
    have hfl : ¬ (cfg0.win 12).flush (prv t) = true := by
      rw [flush0_12]; show ¬ (t.val - 1) % 8 = 7; omega
    refine ((dats m 0 c).before_of_pos 12 t (by omega) rfl d).trans ?_
    rw [if_neg hfl, same_7 m c t (by omega)]
    unfold Dat.left
    by_cases h0 : n % 8 = 0
    · rw [live_12 (prv t) (by show (t.val - 1) % 8 = 0; omega)]
      exact after_12 m c (prv t)
    · rw [idle_12 (prv t) (by show ¬ (t.val - 1) % 8 = 0; omega)]
      exact ih (prv t) (by show t.val - 1 = n; omega) h0 d
/-- Within a sequence window 13's buffer holds what its first block stored. -/
theorem held_13 (c : Dev nD) : ∀ (n : ℕ) (t : Fin cfg0.N), t.val = n → ¬ n % 8 = 0 → ∀ d, (dats m 0 c).before 13 t d = scaleB (iblk m c 7 t) := by
  intro n
  induction n with
  | zero => intro t _ h; exact absurd (Nat.zero_mod _) h
  | succ n ih =>
    intro t ht h d
    have hfl : ¬ (cfg0.win 13).flush (prv t) = true := by
      rw [flush0_13]; show ¬ (t.val - 1) % 8 = 7; omega
    refine ((dats m 0 c).before_of_pos 13 t (by omega) rfl d).trans ?_
    rw [if_neg hfl, same_7 m c t (by omega)]
    unfold Dat.left
    by_cases h0 : n % 8 = 0
    · rw [live_13 (prv t) (by show (t.val - 1) % 8 = 0; omega)]
      exact after_13 m c (prv t)
    · rw [idle_13 (prv t) (by show ¬ (t.val - 1) % 8 = 0; omega)]
      exact ih (prv t) (by show t.val - 1 = n; omega) h0 d

/-- The table's entry depends on the head and the sequence alone. -/
theorem entryOf_congr (x : Vec F S72 .f32) {i i' : grid0.Coords} (q0 : i 0 = i' 0) (q1 : i 1 = i' 1) : entryOf x i = entryOf x i' := by
  have e : k0_off1 i = k0_off1 i' := by simp only [k0_off1, q0, q1]
  have gen : ∀ (o o' : Fin 1 → Nat) (h h') (f), o = o' →
      View.ld (Val := Elt F) (e' := .f32) x (Rect.unit (s := S72) o S1.size h) f = View.ld (Val := Elt F) (e' := .f32) x (Rect.unit (s := S72) o' S1.size h') f := by
    rintro o _ h h' f rfl; rfl
  unfold entryOf
  exact gen _ _ _ _ _ e

/-- Within a sequence the pair of a head and a sequence does not change. -/
theorem vs_same (c : Dev nD) (t : Fin cfg0.N) (h : ¬ t.val % 8 = 0) : vsAt m c t = vsAt m c (prv t) := by
  have hf : (cfg0.win 1).fetch t = false := by
    rw [← Bool.not_eq_true, fetch0_1]; omega
  have e := (dats m 0 c).before_of_pos 1 t (by omega) hf (iblk m c 1 t)
  rw [before_1, if_neg (by exact Bool.false_ne_true)] at e
  have e' : iblk m c 1 t = iblk m c 1 (prv t) := by
    refine e.trans ?_
    unfold Dat.left
    rw [live_1]
    exact after_1 m c (prv t)
  unfold vsAt
  rw [e']
  have hN : t.val < 576 := Nat.lt_of_lt_of_eq t.isLt N_0
  have q0 : grid0.coords t 0 = grid0.coords (prv t) 0 := Fin.ext (((Pipeline.Grid.coords_val t 0 (by decide) rfl : (grid0.coords t 0).val = t.val / 96 % 6)).trans ((show t.val / 96 % 6 = (t.val - 1) / 96 % 6 by omega).trans (Pipeline.Grid.coords_val (prv t) 0 (by decide) rfl : (grid0.coords (prv t) 0).val = (t.val - 1) / 96 % 6).symm))
  have q1 : grid0.coords t 1 = grid0.coords (prv t) 1 := Fin.ext (((Pipeline.Grid.coords_val t 1 (by decide) rfl : (grid0.coords t 1).val = t.val / 8 % 12)).trans ((show t.val / 8 % 12 = (t.val - 1) / 8 % 12 by omega).trans (Pipeline.Grid.coords_val (prv t) 1 (by decide) rfl : (grid0.coords (prv t) 1).val = (t.val - 1) / 8 % 12).symm))
  exact entryOf_congr _ q0 q1

/-- A window's buffer at the contents the proof data names, or as found where the point is idle. -/
theorem leaves_of (c : Dev nD) (w : Fin cfg0.W) (t : Fin cfg0.N) (v : (cfg0.win w).block.Idx → Elt F (cfg0.win w).elt)
    (ha : (dats m 0 c).after w t = v ∨ (cfg0.idle w (grid0.coords t) = true ∧ (cfg0.win w).flush t = false))
    (hb : cfg0.idle w (grid0.coords t) = true → (cfg0.win w).flush t = false → ∃ d, (dats m 0 c).before w t d = v) :
    (owns (c : Thread nD τ) ((cfg0.win w).stage (cfg0.slots t w)) fullShare v : sProp 𝕄) ⊢ (dats m 0 c).leavesExact w t := by
  by_cases hi : cfg0.idle w (grid0.coords t) = true ∧ (cfg0.win w).flush t = false
  · rw [Dat.leavesExact_idle (dats m 0 c) w t hi.1 hi.2]
    obtain ⟨d, hd⟩ := hb hi.1 hi.2
    iintro H; iexists d; rw [hd]; iexact H
  · have ha' := ha.resolve_right hi
    have : (dats m 0 c).leavesExact w t = owns (c : Thread nD τ) ((cfg0.win w).stage (cfg0.slots t w)) fullShare ((dats m 0 c).after w t) := by
      unfold Dat.leavesExact
      rcases Bool.eq_false_or_eq_true (cfg0.idle w (grid0.coords t)) with h1 | h1
      · rcases Bool.eq_false_or_eq_true ((cfg0.win w).flush t) with h2 | h2
        · rw [h1, h2]
        · exact absurd ⟨h1, h2⟩ hi
      · rw [h1]
    rw [this, ha']

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- What a run of the body gives back is what the obligation asks. -/
theorem post_of (c : Dev nD) (t : Fin cfg0.N) (a tot : Vec F S256x128 .f32) (d8 d9)
    (hacc : accAt m c t.val t.isLt = accP m c t a) (htot : 8 ≤ t.val % 96 → tot = totAt m c (t.val - 1) (Nat.lt_of_le_of_lt (Nat.sub_le _ _) t.isLt)) :
    iprop(heldAfter c (grid0.coords t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) scM0_0 scM0_1 scM0_2 scM0_3 scM0_4 scM0_5 scM0_6 (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a tot
      ∗ (∃ r, prngReg c r) ∗ (dats m 0 c).owesAt () t.castSucc)
    ⊢ bodyPost m c t := by
  have hN : t.val < 576 := lt_of_lt_of_eq t.isLt (show cfg0.N = 576 from N_0)
  have htt : isLast (grid0.coords t) → totB (grid0.coords t) (entryOf (iblk m c 0 t) (grid0.coords t)) (accP m c t a) tot = totAt m c t.val t.isLt := by
    intro hl
    rw [isLast_iff] at hl
    rw [totAt_last m c t hl, ← hacc]
    by_cases h8 : 8 ≤ t.val % 96
    · rw [htot h8]; rfl
    · have hf : isFst (grid0.coords t) := by rw [isFst_iff]; omega
      unfold totB; rw [if_pos hf, if_pos hf]; rfl
  have hinv : Inv m c (t.val + 1) (s0B (iblk m c 2 t)) (s1B (iblk m c 7 t)) (s2B (iblk m c 6 t)) (s3B (entryOf (iblk m c 1 t) (grid0.coords t)) (iblk m c 7 t)) (s4B (iblk m c 5 t) (iblk m c 7 t)) (accP m c t a)
      (open Classical in if isLast (grid0.coords t) then totB (grid0.coords t) (entryOf (iblk m c 0 t) (grid0.coords t)) (accP m c t a) tot else tot) := by
    intro h
    refine ⟨fun h0 => ?_, fun h8 => ?_⟩
    · have hv : vsAt m c ⟨t.val + 1, h⟩ = vsAt m c t := vs_same m c ⟨t.val + 1, h⟩ h0
      rw [same_2 m c ⟨t.val + 1, h⟩ h0, same_5 m c ⟨t.val + 1, h⟩ h0, same_6 m c ⟨t.val + 1, h⟩ h0, same_7 m c ⟨t.val + 1, h⟩ h0, hv]
      exact ⟨rfl, rfl, rfl, rfl, rfl, hacc.symm⟩
    · show _ = totAt m c t.val t.isLt
      by_cases hl : isLast (grid0.coords t)
      · rw [if_pos hl]; exact htt hl
      · rw [if_neg hl]
        rw [isLast_iff] at hl
        rw [totAt_other m c t hl (by omega)]
        exact htot (by omega)
  have a8 : (dats m 0 c).after 8 t = (open Classical in if isLast (grid0.coords t) ∧ isEnd (grid0.coords t) then k0_pay5 (totB (grid0.coords t) (entryOf (iblk m c 0 t) (grid0.coords t)) (accP m c t a) tot) else (dats m 0 c).before 8 t d8) ∨ (cfg0.idle 8 (grid0.coords t) = true ∧ (cfg0.win 8).flush t = false) := by
    by_cases h : t.val % 96 = 95
    · left
      have hl : isLast (grid0.coords t) := by rw [isLast_iff]; omega
      have he : isEnd (grid0.coords t) := by rw [isEnd_iff]; omega
      rw [after_8, if_pos ⟨hl, he⟩, ← htt hl]
    · right
      exact ⟨idle_8 t h, by rw [← Bool.not_eq_true, flush0_8]; exact h⟩
  have b8 : cfg0.idle 8 (grid0.coords t) = true → (cfg0.win 8).flush t = false → ∃ d, (dats m 0 c).before 8 t d = (open Classical in if isLast (grid0.coords t) ∧ isEnd (grid0.coords t) then k0_pay5 (totB (grid0.coords t) (entryOf (iblk m c 0 t) (grid0.coords t)) (accP m c t a) tot) else (dats m 0 c).before 8 t d8) := by
    intro hi _
    have h : ¬ t.val % 96 = 95 := fun h => by rw [live_8 t h] at hi; exact Bool.false_ne_true hi
    refine ⟨d8, ?_⟩
    rw [if_neg]
    rw [isLast_iff, isEnd_iff]; omega
  have a9 : (dats m 0 c).after 9 t = (open Classical in if isLast (grid0.coords t) then k0_pay2 (entryOf (iblk m c 0 t) (grid0.coords t)) (accP m c t a) else (dats m 0 c).before 9 t d9) ∨ (cfg0.idle 9 (grid0.coords t) = true ∧ (cfg0.win 9).flush t = false) := by
    by_cases h : t.val % 8 = 7
    · left
      have hl : isLast (grid0.coords t) := by rw [isLast_iff]; omega
      rw [after_9, if_pos hl, hacc]; rfl
    · right
      exact ⟨idle_9 t h, by rw [← Bool.not_eq_true, flush0_9]; exact h⟩
  have b9 : cfg0.idle 9 (grid0.coords t) = true → (cfg0.win 9).flush t = false → ∃ d, (dats m 0 c).before 9 t d = (open Classical in if isLast (grid0.coords t) then k0_pay2 (entryOf (iblk m c 0 t) (grid0.coords t)) (accP m c t a) else (dats m 0 c).before 9 t d9) := by
    intro hi _
    have h : ¬ t.val % 8 = 7 := fun h => by rw [live_9 t h] at hi; exact Bool.false_ne_true hi
    refine ⟨d9, ?_⟩
    rw [if_neg]
    rw [isLast_iff]; omega
  unfold heldAfter bodyPost
  rw [show (dats m 0 c).owesAt () t.succ = (dats m 0 c).owesAt () t.castSucc from rfl, show (dats m 0 c).Φ t.succ = PhiS m c (t.val + 1) from rfl]
  unfold PhiS
  iintro ⟨⟨H0, H1, H2, H3, H4, H5, H6, H7, H10, H11, H12, H13, HS0, HS1, HS2, HS3, HS4, H8, H9, HS5, HS6⟩, Hg, Ho⟩
  isplitl [HS0 HS1 HS2 HS3 HS4 HS5 HS6 Hg]
  · iexists _; iexists _; iexists _; iexists _; iexists _; iexists _; iexists _
    isplitr; · ipureintro; exact hinv
    isplitl [HS0 HS1 HS2 HS3 HS4 HS5 HS6]
    · isplitl [HS0]; (· iexact HS0); isplitl [HS1]; (· iexact HS1); isplitl [HS2]; (· iexact HS2); isplitl [HS3]; (· iexact HS3); isplitl [HS4]; (· iexact HS4); isplitl [HS5]; (· iexact HS5); iexact HS6
    iexact Hg
  isplitl [Ho]; · iexact Ho
  isplitl [H0]; · iapply (leaves_of m c 0 t _ (.inl (after_0 m c t)) (fun h _ => absurd h (by rw [live_0]; exact Bool.false_ne_true))); iexact H0
  isplitl [H1]; · iapply (leaves_of m c 1 t _ (.inl (after_1 m c t)) (fun h _ => absurd h (by rw [live_1]; exact Bool.false_ne_true))); iexact H1
  isplitl [H2]; · iapply (leaves_of m c 2 t _ (.inl (after_2 m c t)) (fun h _ => absurd h (by rw [live_2]; exact Bool.false_ne_true))); iexact H2
  isplitl [H3]; · iapply (leaves_of m c 3 t _ (.inl (after_3 m c t)) (fun h _ => absurd h (by rw [live_3]; exact Bool.false_ne_true))); iexact H3
  isplitl [H4]; · iapply (leaves_of m c 4 t _ (.inl (after_4 m c t)) (fun h _ => absurd h (by rw [live_4]; exact Bool.false_ne_true))); iexact H4
  isplitl [H5]; · iapply (leaves_of m c 5 t _ (.inl (after_5 m c t)) (fun h _ => absurd h (by rw [live_5]; exact Bool.false_ne_true))); iexact H5
  isplitl [H6]; · iapply (leaves_of m c 6 t _ (.inl (after_6 m c t)) (fun h _ => absurd h (by rw [live_6]; exact Bool.false_ne_true))); iexact H6
  isplitl [H7]; · iapply (leaves_of m c 7 t _ (.inl (after_7 m c t)) (fun h _ => absurd h (by rw [live_7]; exact Bool.false_ne_true))); iexact H7
  isplitl [H8]; · iapply (leaves_of m c 8 t _ a8 b8); iexact H8
  isplitl [H9]; · iapply (leaves_of m c 9 t _ a9 b9); iexact H9
  isplitl [H10]; · iapply (leaves_of m c 10 t _ (.inl (after_10 m c t)) (fun h _ => absurd h (by rw [live_10]; exact Bool.false_ne_true))); iexact H10
  isplitl [H11]; · iapply (leaves_of m c 11 t _ (.inl (after_11 m c t)) (fun h _ => absurd h (by rw [live_11]; exact Bool.false_ne_true))); iexact H11
  isplitl [H12]; · iapply (leaves_of m c 12 t _ (.inl (after_12 m c t)) (fun h _ => ⟨(dats m 0 c).after 12 t, held_12 m c _ t rfl (fun h0 => by rw [live_12 t h0] at h; exact Bool.false_ne_true h) _⟩)); iexact H12
  iapply (leaves_of m c 13 t _ (.inl (after_13 m c t)) (fun h _ => ⟨(dats m 0 c).after 13 t, held_13 m c _ t rfl (fun h0 => by rw [live_13 t h0] at h; exact Bool.false_ne_true h) _⟩)); iexact H13

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7]
  rw [show (dats m 0 c).Φ t.castSucc = PhiS m c t.val from rfl]
  unfold PhiS
  iintro ⟨⟨%y0, %y1, %y2, %y3, %y4, %y5, %y6, %hinv', ⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hinv := hinv' t.isLt
  by_cases h0 : t.val % 8 = 0
  · iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) _ _ y6 ((first_iff t).mpr h0) (fst_or_nxt t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexact HS6
    iintro HR
    iapply (post_of m c t _ _ _ _ (accAt_first m c t h0) hinv.2)
    isplitl [HR]; · iexact HR
    isplitl [Hg]; · iexact Hg
    iexact Ho
  · have hs := hinv.1 h0
    rw [held_12 m c _ t rfl h0, held_13 m c _ t rfl h0]
    obtain ⟨e0, e1, e2, e3, e4, e5⟩ := hs
    subst e0 e1 e2 e3 e4 e5
    iapply (run_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) _ _ _ y6 (fun h => h0 ((first_iff t).mp h)) (fst_or_nxt t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro HR
    iapply (post_of m c t _ _ _ _ (accAt_later m c t h0) hinv.2)
    isplitl [HR]; · iexact HR
    isplitl [Hg]; · iexact Hg
    iexact Ho

theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, scratch_eq]
  unfold PhiS
  iintro ⟨⟨⟨%y0, HS0⟩, ⟨%y1, HS1⟩, ⟨%y2, HS2⟩, ⟨%y3, HS3⟩, ⟨%y4, HS4⟩, ⟨%y5, HS5⟩, ⟨%y6, HS6⟩⟩, Hg⟩
  iexists y0; iexists y1; iexists y2; iexists y3; iexists y4; iexists y5; iexists y6
  isplitr; · ipureintro; exact fun h => ⟨fun h0 => absurd rfl h0, fun h8 => absurd h8 (by decide)⟩
  isplitl [HS0 HS1 HS2 HS3 HS4 HS5 HS6]
  · isplitl [HS0]; (· iexact HS0); isplitl [HS1]; (· iexact HS1); isplitl [HS2]; (· iexact HS2); isplitl [HS3]; (· iexact HS3); isplitl [HS4]; (· iexact HS4); isplitl [HS5]; (· iexact HS5); iexact HS6
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, scratch_eq]
  unfold PhiS
  iintro ⟨%y0, %y1, %y2, %y3, %y4, %y5, %y6, -, ⟨HS0, HS1, HS2, HS3, HS4, HS5, HS6⟩, Hg⟩
  isplitl [HS0 HS1 HS2 HS3 HS4 HS5 HS6]
  · isplitl [HS0]; (· iexists _; iexact HS0); isplitl [HS1]; (· iexists _; iexact HS1); isplitl [HS2]; (· iexists _; iexact HS2); isplitl [HS3]; (· iexists _; iexact HS3); isplitl [HS4]; (· iexists _; iexact HS4); isplitl [HS5]; (· iexists _; iexact HS5); iexists _; iexact HS6
  iexact Hg

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.KI.Vals.lean ====
/- What one grid point computes, as functions of the blocks it reads: the quantised gradient of the output and its
   per-row scale, the five tables made from them at the first key block of a sequence, and one key block's rows of the
   gradients of k and v and its share of the gradient of the queries, chunk by chunk of 256 keys. -/
module

public import proofs.«01_k».proof.Proof.Gen.KernelIdeal.Skeleton
public import proofs.«01_k».proof.Proof.Gen.KernelIdeal.Frame
@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The entry of the table of the keys' (values') scales at the point. -/
def entryOf (x : Vec F S72 .f32) (i : grid0.Coords) : F .f32 :=
  View.ld (Val := Elt F) (e' := .f32) x (Rect.unit (s := S72) (k0_off1 i) S1.size (k0_off1_inb i)) (Shape.Idx.first (show 0 < S1.numel by rw [numel1_S1]; exact Nat.one_pos))

/-- The biased exponent of the rows' scales, and the test for a zero row. -/
def expoB (x7 : Vec F S1x1x256x128 .bf16) : IVec S256x1 32 := k0_pay11 (k0_pay8 x7) (k0_pay9 x7) (k0_pay10 x7)
/-- Whether a row's biased exponent is stated as zero. -/
def zeroB (x7 : Vec F S1x1x256x128 .bf16) : IVec S256x1 1 := k0_pay12 (k0_pay7 x7) (k0_pay8 x7) (k0_pay9 x7) (k0_pay10 x7)
/-- The rows' scales. -/
def scB (x7 : Vec F S1x1x256x128 .bf16) : FVec F S256x1 .f32 := k0_pay14 (F := F) (expoB x7) (zeroB x7) 126#32
/-- The rows' codes. -/
def cdB (x7 : Vec F S1x1x256x128 .bf16) : FVec F S256x128 .fp8e5m2 := k0_pay15 (k0_pay6 x7) (expoB x7) (zeroB x7) 126#32
/-- The codes as the block of the codes' array. -/
def codeB (x7 : Vec F S1x1x256x128 .bf16) : Vec F S1x1x256x128 .fp8e5m2 := k0_pay16 (k0_pay6 x7) (expoB x7) (zeroB x7) 126#32
/-- The scales as the block of the scales' array. -/
def scaleB (x7 : Vec F S1x1x256x128 .bf16) : Vec F S1x1x1x256 .f32 := k0_pay17 (F := F) (expoB x7) (zeroB x7) 126#32
/-- The queries transposed. -/
def s0B (x2 : Vec F S1x256x128 .bf16) : Vec F S128x256 .bf16 := k0_pay20 x2
/-- The dequantised gradient of the output, transposed. -/
def s1B (x7 : Vec F S1x1x256x128 .bf16) : Vec F S128x256 .bf16 := k0_pay19 (scB x7) (cdB x7)
/-- The rows' log sums in units of log 2, along the lanes. -/
def s2B (x6 : Vec F S1x1x1x256 .f32) : Vec F S256x128 .f32 := k0_pay21 x6
/-- The rows' scales by the values' scale, along the lanes. -/
def s3B (vs : F .f32) (x7 : Vec F S1x1x256x128 .bf16) : Vec F S256x128 .f32 := k0_pay22 vs (scB x7)
/-- The rows' sums of the gradient by the output, along the lanes. -/
def s4B (x5 : Vec F S1x1x256x128 .bf16) (x7 : Vec F S1x1x256x128 .bf16) : Vec F S256x128 .f32 :=
  k0_pay24 (k0_pay23 (k0_pay18 (k0_pay6 x7) (expoB x7) (zeroB x7) 126#32 x5))

/-- One chunk's rows of the gradient of v. -/
def dvC (ks : F .f32) (q : Vec F S1x256x128 .bf16) (do_ : Vec F S128x256 .bf16) (l : Vec F S256x128 .f32) (k : Vec F S1x1x256x128 .fp8e4m3) : Vec F S1x1x256x128 .bf16 :=
  k0_pay41 (k0_pay26 ks) (k0_pay27 q) do_ (k0_pay37 k) l
/-- One chunk's rows of the gradient of k. -/
def dkC (ks : F .f32) (q : Vec F S1x256x128 .bf16) (qt : Vec F S128x256 .bf16) (cd : Vec F S1x1x256x128 .fp8e5m2) (l c2 dl : Vec F S256x128 .f32) (k v : Vec F S1x1x256x128 .fp8e4m3) : Vec F S1x1x256x128 .bf16 :=
  k0_pay42 (k0_pay26 ks) (k0_pay27 q) qt (k0_pay28 cd) (k0_pay37 k) (k0_pay38 v) l c2 dl
/-- One chunk's gradient of the scores. -/
def dsC (ks : F .f32) (q : Vec F S1x256x128 .bf16) (cd : Vec F S1x1x256x128 .fp8e5m2) (l c2 dl : Vec F S256x128 .f32) (k v : Vec F S1x1x256x128 .fp8e4m3) : FVec F S256x256 .bf16 :=
  k0_pay40 (k0_pay26 ks) (k0_pay27 q) (k0_pay28 cd) (k0_pay37 k) (k0_pay38 v) l c2 dl
/-- One chunk's share of the gradient of the queries. -/
def dqC (ks : F .f32) (q : Vec F S1x256x128 .bf16) (cd : Vec F S1x1x256x128 .fp8e5m2) (l c2 dl : Vec F S256x128 .f32) (k v : Vec F S1x1x256x128 .fp8e4m3) : FVec F S256x128 .f32 :=
  matmul dot_S256x256_S256x128_S256x128_1_0_0_1_n_n none (dsC ks q cd l c2 dl k v) (extf .bf16 (k0_pay37 k) bitsLt_fp8e4m3_bf16) (constant S256x128 .f32 0x00000000#32)

/-- Chunk 0 of the block of keys. -/
abbrev ch0 : Rect S1x1x2048x128 := Rect.unit (s := S1x1x2048x128) ![0, 0, 0, 0] S1x1x256x128.size inb_S1x1x2048x128_S1x1x256x128_0_0_0_0
/-- Chunk 1 of the block of keys. -/
abbrev ch1 : Rect S1x1x2048x128 := Rect.unit (s := S1x1x2048x128) ![0, 0, 256, 0] S1x1x256x128.size inb_S1x1x2048x128_S1x1x256x128_0_0_256_0
/-- Chunk 2 of the block of keys. -/
abbrev ch2 : Rect S1x1x2048x128 := Rect.unit (s := S1x1x2048x128) ![0, 0, 512, 0] S1x1x256x128.size inb_S1x1x2048x128_S1x1x256x128_0_0_512_0
/-- Chunk 3 of the block of keys. -/
abbrev ch3 : Rect S1x1x2048x128 := Rect.unit (s := S1x1x2048x128) ![0, 0, 768, 0] S1x1x256x128.size inb_S1x1x2048x128_S1x1x256x128_0_0_768_0
/-- Chunk 4 of the block of keys. -/
abbrev ch4 : Rect S1x1x2048x128 := Rect.unit (s := S1x1x2048x128) ![0, 0, 1024, 0] S1x1x256x128.size inb_S1x1x2048x128_S1x1x256x128_0_0_1024_0
/-- Chunk 5 of the block of keys. -/
abbrev ch5 : Rect S1x1x2048x128 := Rect.unit (s := S1x1x2048x128) ![0, 0, 1280, 0] S1x1x256x128.size inb_S1x1x2048x128_S1x1x256x128_0_0_1280_0
/-- Chunk 6 of the block of keys. -/
abbrev ch6 : Rect S1x1x2048x128 := Rect.unit (s := S1x1x2048x128) ![0, 0, 1536, 0] S1x1x256x128.size inb_S1x1x2048x128_S1x1x256x128_0_0_1536_0
/-- Chunk 7 of the block of keys. -/
abbrev ch7 : Rect S1x1x2048x128 := Rect.unit (s := S1x1x2048x128) ![0, 0, 1792, 0] S1x1x256x128.size inb_S1x1x2048x128_S1x1x256x128_0_0_1792_0

/-- The block's rows of the gradient of v, from the tables. -/
def dvT (ks : F .f32) (q : Vec F S1x256x128 .bf16) (do_ : Vec F S128x256 .bf16) (l : Vec F S256x128 .f32) (x3 : Vec F S1x1x2048x128 .fp8e4m3) : Vec F S1x1x2048x128 .bf16 :=
  View.canon [⟨ch7, dvC ks q do_ l (View.ld x3 ch7)⟩, ⟨ch6, dvC ks q do_ l (View.ld x3 ch6)⟩, ⟨ch5, dvC ks q do_ l (View.ld x3 ch5)⟩, ⟨ch4, dvC ks q do_ l (View.ld x3 ch4)⟩, ⟨ch3, dvC ks q do_ l (View.ld x3 ch3)⟩, ⟨ch2, dvC ks q do_ l (View.ld x3 ch2)⟩, ⟨ch1, dvC ks q do_ l (View.ld x3 ch1)⟩, ⟨ch0, dvC ks q do_ l (View.ld x3 ch0)⟩]
/-- The block's rows of the gradient of k, from the tables. -/
def dkT (ks : F .f32) (q : Vec F S1x256x128 .bf16) (qt : Vec F S128x256 .bf16) (cd : Vec F S1x1x256x128 .fp8e5m2) (l c2 dl : Vec F S256x128 .f32) (x3 x4 : Vec F S1x1x2048x128 .fp8e4m3) : Vec F S1x1x2048x128 .bf16 :=
  View.canon [⟨ch7, dkC ks q qt cd l c2 dl (View.ld x3 ch7) (View.ld x4 ch7)⟩, ⟨ch6, dkC ks q qt cd l c2 dl (View.ld x3 ch6) (View.ld x4 ch6)⟩, ⟨ch5, dkC ks q qt cd l c2 dl (View.ld x3 ch5) (View.ld x4 ch5)⟩, ⟨ch4, dkC ks q qt cd l c2 dl (View.ld x3 ch4) (View.ld x4 ch4)⟩, ⟨ch3, dkC ks q qt cd l c2 dl (View.ld x3 ch3) (View.ld x4 ch3)⟩, ⟨ch2, dkC ks q qt cd l c2 dl (View.ld x3 ch2) (View.ld x4 ch2)⟩, ⟨ch1, dkC ks q qt cd l c2 dl (View.ld x3 ch1) (View.ld x4 ch1)⟩, ⟨ch0, dkC ks q qt cd l c2 dl (View.ld x3 ch0) (View.ld x4 ch0)⟩]
/-- The sum over the block's chunks of the shares of the gradient of the queries, added to what was held. -/
def accT (ks : F .f32) (q : Vec F S1x256x128 .bf16) (cd : Vec F S1x1x256x128 .fp8e5m2) (l c2 dl : Vec F S256x128 .f32) (x3 x4 : Vec F S1x1x2048x128 .fp8e4m3) (a : Vec F S256x128 .f32) : Vec F S256x128 .f32 :=
  shapeCast S256x128 (addf a (addf (addf (addf (addf (addf (addf (addf (dqC ks q cd l c2 dl (View.ld x3 ch0) (View.ld x4 ch0)) (dqC ks q cd l c2 dl (View.ld x3 ch1) (View.ld x4 ch1))) (dqC ks q cd l c2 dl (View.ld x3 ch2) (View.ld x4 ch2))) (dqC ks q cd l c2 dl (View.ld x3 ch3) (View.ld x4 ch3))) (dqC ks q cd l c2 dl (View.ld x3 ch4) (View.ld x4 ch4))) (dqC ks q cd l c2 dl (View.ld x3 ch5) (View.ld x4 ch5))) (dqC ks q cd l c2 dl (View.ld x3 ch6) (View.ld x4 ch6))) (dqC ks q cd l c2 dl (View.ld x3 ch7) (View.ld x4 ch7)))) shapeCasts_S256x128_S256x128

/-- The block's rows of the gradient of v at a point. -/
def dvB (i : grid0.Coords) (x0 : Vec F S72 .f32) (x2 : Vec F S1x256x128 .bf16) (x3 : Vec F S1x1x2048x128 .fp8e4m3) (x6 : Vec F S1x1x1x256 .f32) (x7 : Vec F S1x1x256x128 .bf16) : Vec F S1x1x2048x128 .bf16 :=
  dvT (entryOf x0 i) x2 (s1B x7) (s2B x6) x3
/-- The block's rows of the gradient of k at a point. -/
def dkB (i : grid0.Coords) (x0 x1 : Vec F S72 .f32) (x2 : Vec F S1x256x128 .bf16) (x3 x4 : Vec F S1x1x2048x128 .fp8e4m3) (x5 : Vec F S1x1x256x128 .bf16) (x6 : Vec F S1x1x1x256 .f32) (x7 : Vec F S1x1x256x128 .bf16) : Vec F S1x1x2048x128 .bf16 :=
  dkT (entryOf x0 i) x2 (s0B x2) (codeB x7) (s2B x6) (s3B (entryOf x1 i) x7) (s4B x5 x7) x3 x4
/-- The sequence's running gradient of the queries after a point, from what it was before. -/
def accB (i : grid0.Coords) (x0 x1 : Vec F S72 .f32) (x2 : Vec F S1x256x128 .bf16) (x3 x4 : Vec F S1x1x2048x128 .fp8e4m3) (x5 : Vec F S1x1x256x128 .bf16) (x6 : Vec F S1x1x1x256 .f32) (x7 : Vec F S1x1x256x128 .bf16) (a : Vec F S256x128 .f32) : Vec F S256x128 .f32 :=
  accT (entryOf x0 i) x2 (codeB x7) (s2B x6) (s3B (entryOf x1 i) x7) (s4B x5 x7) x3 x4 a

section
variable {ks ks' : F .f32} {q q' : Vec F S1x256x128 .bf16} {qt qt' do_ do_' : Vec F S128x256 .bf16} {cd cd' : Vec F S1x1x256x128 .fp8e5m2} {l l' c2 c2' dl dl' a a' : Vec F S256x128 .f32} {x3 x4 : Vec F S1x1x2048x128 .fp8e4m3}
  {k0 k1 k2 k3 k4 k5 k6 k7 : Vec F S1x1x256x128 .fp8e4m3}
  {v0 v1 v2 v3 v4 v5 v6 v7 : Vec F S1x1x256x128 .fp8e4m3}

/-- The eight chunks a run stored into the rows of the gradient of v, their arguments known. -/
theorem dvT_of (h0 : ks = ks') (h1 : q = q') (h2 : do_ = do_') (h3 : l = l')
    (hk0 : k0 = (View.ld x3 ch0)) (hk1 : k1 = (View.ld x3 ch1)) (hk2 : k2 = (View.ld x3 ch2)) (hk3 : k3 = (View.ld x3 ch3)) (hk4 : k4 = (View.ld x3 ch4)) (hk5 : k5 = (View.ld x3 ch5)) (hk6 : k6 = (View.ld x3 ch6)) (hk7 : k7 = (View.ld x3 ch7)) :
    View.canon [⟨ch7, dvC ks q do_ l k7⟩, ⟨ch6, dvC ks q do_ l k6⟩, ⟨ch5, dvC ks q do_ l k5⟩, ⟨ch4, dvC ks q do_ l k4⟩, ⟨ch3, dvC ks q do_ l k3⟩, ⟨ch2, dvC ks q do_ l k2⟩, ⟨ch1, dvC ks q do_ l k1⟩, ⟨ch0, dvC ks q do_ l k0⟩] = dvT ks' q' do_' l' x3 := by
  subst h0 h1 h2 h3 hk0 hk1 hk2 hk3 hk4 hk5 hk6 hk7; rfl
/-- The eight chunks a run stored into the rows of the gradient of k, their arguments known. -/
theorem dkT_of (h0 : ks = ks') (h1 : q = q') (h2 : qt = qt') (h3 : cd = cd') (h4 : l = l') (h5 : c2 = c2') (h6 : dl = dl')
    (hk0 : k0 = (View.ld x3 ch0)) (hk1 : k1 = (View.ld x3 ch1)) (hk2 : k2 = (View.ld x3 ch2)) (hk3 : k3 = (View.ld x3 ch3)) (hk4 : k4 = (View.ld x3 ch4)) (hk5 : k5 = (View.ld x3 ch5)) (hk6 : k6 = (View.ld x3 ch6)) (hk7 : k7 = (View.ld x3 ch7))
    (hv0 : v0 = (View.ld x4 ch0)) (hv1 : v1 = (View.ld x4 ch1)) (hv2 : v2 = (View.ld x4 ch2)) (hv3 : v3 = (View.ld x4 ch3)) (hv4 : v4 = (View.ld x4 ch4)) (hv5 : v5 = (View.ld x4 ch5)) (hv6 : v6 = (View.ld x4 ch6)) (hv7 : v7 = (View.ld x4 ch7)) :
    View.canon [⟨ch7, dkC ks q qt cd l c2 dl k7 v7⟩, ⟨ch6, dkC ks q qt cd l c2 dl k6 v6⟩, ⟨ch5, dkC ks q qt cd l c2 dl k5 v5⟩, ⟨ch4, dkC ks q qt cd l c2 dl k4 v4⟩, ⟨ch3, dkC ks q qt cd l c2 dl k3 v3⟩, ⟨ch2, dkC ks q qt cd l c2 dl k2 v2⟩, ⟨ch1, dkC ks q qt cd l c2 dl k1 v1⟩, ⟨ch0, dkC ks q qt cd l c2 dl k0 v0⟩] = dkT ks' q' qt' cd' l' c2' dl' x3 x4 := by
  subst h0 h1 h2 h3 h4 h5 h6 hk0 hk1 hk2 hk3 hk4 hk5 hk6 hk7 hv0 hv1 hv2 hv3 hv4 hv5 hv6 hv7; rfl
/-- The eight chunks a run summed, their arguments known. -/
theorem accT_of (h0 : ks = ks') (h1 : q = q') (h3 : cd = cd') (h4 : l = l') (h5 : c2 = c2') (h6 : dl = dl')
    (hk0 : k0 = (View.ld x3 ch0)) (hk1 : k1 = (View.ld x3 ch1)) (hk2 : k2 = (View.ld x3 ch2)) (hk3 : k3 = (View.ld x3 ch3)) (hk4 : k4 = (View.ld x3 ch4)) (hk5 : k5 = (View.ld x3 ch5)) (hk6 : k6 = (View.ld x3 ch6)) (hk7 : k7 = (View.ld x3 ch7))
    (hv0 : v0 = (View.ld x4 ch0)) (hv1 : v1 = (View.ld x4 ch1)) (hv2 : v2 = (View.ld x4 ch2)) (hv3 : v3 = (View.ld x4 ch3)) (hv4 : v4 = (View.ld x4 ch4)) (hv5 : v5 = (View.ld x4 ch5)) (hv6 : v6 = (View.ld x4 ch6)) (hv7 : v7 = (View.ld x4 ch7)) (ha : a = a') :
    shapeCast S256x128 (addf a (addf (addf (addf (addf (addf (addf (addf (dqC ks q cd l c2 dl k0 v0) (dqC ks q cd l c2 dl k1 v1)) (dqC ks q cd l c2 dl k2 v2)) (dqC ks q cd l c2 dl k3 v3)) (dqC ks q cd l c2 dl k4 v4)) (dqC ks q cd l c2 dl k5 v5)) (dqC ks q cd l c2 dl k6 v6)) (dqC ks q cd l c2 dl k7 v7))) shapeCasts_S256x128_S256x128 = accT ks' q' cd' l' c2' dl' x3 x4 a' := by
  subst h0 h1 h3 h4 h5 h6 ha hk0 hk1 hk2 hk3 hk4 hk5 hk6 hk7 hv0 hv1 hv2 hv3 hv4 hv5 hv6 hv7; rfl
end

end Cert.KernelIdeal.Gen

end
-- ==== Proof.KI.Tail.lean ====
/- The end of the body: at a sequence's last block the finished gradient of the queries is written out and summed. -/
module

public import proofs.«01_k».proof.Proof.Gen.KernelIdeal.Skeleton
public import proofs.«01_k».proof.Proof.Gen.KernelIdeal.Frame
public import proofs.«01_k».proof.Proof.KI.Vals
public import Idealize.ShloMosaic.Lib.VecWindow
@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg3 : Memref sig .tc .smem S72 .f32) (harg3 : arg3.IsWhole) (arg4 : Memref sig .tc .smem S72 .f32) (harg4 : arg4.IsWhole) (arg5 : Memref sig .tc .vmem S1x256x128 .bf16) (harg5 : arg5.IsWhole) (arg6 : Memref sig .tc .vmem S1x1x2048x128 .fp8e4m3) (harg6 : arg6.IsWhole) (arg7 : Memref sig .tc .vmem S1x1x2048x128 .fp8e4m3) (harg7 : arg7.IsWhole) (arg8 : Memref sig .tc .vmem S1x1x256x128 .bf16) (harg8 : arg8.IsWhole) (arg9 : Memref sig .tc .vmem S1x1x1x256 .f32) (harg9 : arg9.IsWhole) (arg10 : Memref sig .tc .vmem S1x1x256x128 .bf16) (harg10 : arg10.IsWhole) (arg11 : Memref sig .tc .vmem S1x256x128 .bf16) (harg11 : arg11.IsWhole) (arg12 : Memref sig .tc .vmem S1x1x256x128 .f32) (harg12 : arg12.IsWhole) (arg13 : Memref sig .tc .vmem S1x1x2048x128 .bf16) (harg13 : arg13.IsWhole) (arg14 : Memref sig .tc .vmem S1x1x2048x128 .bf16) (harg14 : arg14.IsWhole) (arg15 : Memref sig .tc .vmem S1x1x256x128 .fp8e5m2) (harg15 : arg15.IsWhole) (arg16 : Memref sig .tc .vmem S1x1x1x256 .f32) (harg16 : arg16.IsWhole) (arg17 : Memref sig .tc .vmem S128x256 .bf16) (harg17 : arg17.IsWhole) (arg18 : Memref sig .tc .vmem S128x256 .bf16) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole)

/-- The end of the body, at a sequence's last block: the finished gradient of the queries is written out and added
    to the sum over the sequences. -/
noncomputable def tailProg (v3 : F .f32) : Prog (TpuEff nD τ sig (Elt F) Λ₀ .tc) PUnit := do
  let arg1 : BitVec 32 := BitVec.ofNat 32 (i 1).val
  if k0_h2 : k0_cond2 i = 1#1 then do
    let v339 : Vec F S256x128 .f32 ← Prog.lift (.load arg22 (Rect.unit (s := S256x128) ![0, 0] S256x128.size inb_S256x128_S256x128_0_0).toLoadRect (View.loadsAt_vmem h_S256x128))
    let v342 : Vec F S1x1x256x128 .f32 ← Prog.lift (.load arg12 (Rect.unit (s := S1x1x256x128) ![0, 0, 0, 0] S1x1x256x128.size inb_S1x1x256x128_S1x1x256x128_0_0_0_0).toLoadRect (View.loadsAt_vmem h_S1x1x256x128))
    Prog.lift (.store arg12 (Rect.unit (s := S1x1x256x128) ![0, 0, 0, 0] S1x1x256x128.size inb_S1x1x256x128_S1x1x256x128_0_0_0_0) (k0_pay2 v3 v339) Finset.univ (View.stores_vmem_bits_univ h_S1x1x256x128 rfl) (.inl rfl))
    let v345 : BitVec 1 := Scalar.cmpi .eq arg1 0#32
    let v346 : BitVec 32 := Scalar.extui v345
    let v347 : BitVec 1 := Scalar.cmpi .ne v346 0#32
    if k0_h3 : v347 = 1#1 then do
      let v354 : Vec F S256x128 .f32 ← Prog.lift (.load arg23 (Rect.unit (s := S256x128) ![0, 0] S256x128.size inb_S256x128_S256x128_0_0).toLoadRect (View.loadsAt_vmem h_S256x128))
      Prog.lift (.store arg23 (Rect.unit (s := S256x128) ![0, 0] S256x128.size inb_S256x128_S256x128_0_0) (k0_pay3 v3 v339) Finset.univ (View.stores_vmem_bits_univ h_S256x128 rfl) (.inl rfl))
      pure ⟨⟩
    else do
      pure ⟨⟩
    let v348 : BitVec 1 := Scalar.cmpi .sgt arg1 0#32
    let v349 : BitVec 32 := Scalar.extui v348
    let v350 : BitVec 1 := Scalar.cmpi .ne v349 0#32
    if k0_h4 : v350 = 1#1 then do
      let v354 : Vec F S256x128 .f32 ← Prog.lift (.load arg23 (Rect.unit (s := S256x128) ![0, 0] S256x128.size inb_S256x128_S256x128_0_0).toLoadRect (View.loadsAt_vmem h_S256x128))
      let v356 : Vec F S256x128 .f32 ← Prog.lift (.load arg23 (Rect.unit (s := S256x128) ![0, 0] S256x128.size inb_S256x128_S256x128_0_0).toLoadRect (View.loadsAt_vmem h_S256x128))
      Prog.lift (.store arg23 (Rect.unit (s := S256x128) ![0, 0] S256x128.size inb_S256x128_S256x128_0_0) (k0_pay4 v3 v339 v354) Finset.univ (View.stores_vmem_bits_univ h_S256x128 rfl) (.inl rfl))
      pure ⟨⟩
    else do
      pure ⟨⟩
    if k0_h5 : k0_cond5 i = 1#1 then do
      let v354 : Vec F S256x128 .f32 ← Prog.lift (.load arg23 (Rect.unit (s := S256x128) ![0, 0] S256x128.size inb_S256x128_S256x128_0_0).toLoadRect (View.loadsAt_vmem h_S256x128))
      let v356 : Vec F S1x256x128 .bf16 ← Prog.lift (.load arg11 (Rect.unit (s := S1x256x128) ![0, 0, 0] S1x256x128.size inb_S1x256x128_S1x256x128_0_0_0).toLoadRect (View.loadsAt_vmem h_S1x256x128))
      Prog.lift (.store arg11 (Rect.unit (s := S1x256x128) ![0, 0, 0] S1x256x128.size inb_S1x256x128_S1x256x128_0_0_0) (k0_pay5 v354) Finset.univ (View.stores_vmem h_S1x256x128 (harg11.storeExact_slice rfl _ packedbf16_S1x256x128_S1x256x128_0_0_0) (fun _ => rfl)) (.inl rfl))
      pure ⟨⟩
    else do
      pure ⟨⟩
    pure ⟨⟩
  else do
    pure ⟨⟩
  pure ⟨⟩

/-- The point is a sequence's last block. -/
def isLast (i : grid0.Coords) : Prop := k0_cond2 i = 1#1
/-- The point is in the first sequence. -/
def isFst (i : grid0.Coords) : Prop := Scalar.cmpi .ne (Scalar.extui (Scalar.cmpi .eq (BitVec.ofNat 32 (i 1).val) 0#32) : BitVec 32) 0#32 = 1#1
/-- The point is in a later sequence. -/
def isNxt (i : grid0.Coords) : Prop := Scalar.cmpi .ne (Scalar.extui (Scalar.cmpi .sgt (BitVec.ofNat 32 (i 1).val) 0#32) : BitVec 32) 0#32 = 1#1
/-- The point is in the last sequence. -/
def isEnd (i : grid0.Coords) : Prop := k0_cond5 i = 1#1

open Classical in
/-- The sum over the sequences after a last block. -/
def totB (v3 : F .f32) (acc tot : Vec F S256x128 .f32) : Vec F S256x128 .f32 :=
  if isFst i then k0_pay3 v3 acc else k0_pay4 v3 acc tot

section
open Classical in
include harg12 harg22 harg23 in
set_option maxHeartbeats 1000000 in
/-- The end of the body from the running gradient `acc` and the sum `tot`. -/
theorem tail_run (hx : isFst i ↔ ¬ isNxt i) (v3' v3 : F .f32) (hv : v3' = v3) (acc tot : Vec F S256x128 .f32) (x8 : Vec F S1x256x128 .bf16) (x9 : Vec F S1x1x256x128 .f32) (E : Set ℕ) (K : PUnit → sProp 𝕄) :
    iprop(owns (c : Thread nD τ) arg11 fullShare x8 ∗ owns (c : Thread nD τ) arg12 fullShare x9 ∗ owns (c : Thread nD τ) arg22 fullShare acc ∗ owns (c : Thread nD τ) arg23 fullShare tot
      ∗ (iprop(owns (c : Thread nD τ) arg11 fullShare (if isLast i ∧ isEnd i then k0_pay5 (totB i v3 acc tot) else x8) ∗ owns (c : Thread nD τ) arg12 fullShare (if isLast i then k0_pay2 v3 acc else x9) ∗ owns (c : Thread nD τ) arg22 fullShare acc ∗ owns (c : Thread nD τ) arg23 fullShare (if isLast i then totB i v3 acc tot else tot)) -∗ K ⟨⟩))
    ⊢ wp frame (wpE (defs₀ (F := F)) Variants.none c none) E (tailProg i arg11 harg11 arg12 arg22 arg23 v3') K := by
  subst hv
  have hn : isFst i ∨ isNxt i := (Classical.em (isFst i)).imp_right fun h => Classical.not_not.mp fun h' => h (hx.mpr h')
  by_cases h1 : isLast i <;> by_cases h2 : isFst i <;> by_cases h4 : isEnd i <;> by_cases h3 : isNxt i
  all_goals first | exact absurd h3 (hx.mp h2) | exact absurd (hn.resolve_left h2) h3 | skip
  all_goals
    have c1 := h1; have c2 := h2; have c3 := h3; have c4 := h4
    unfold isLast at c1; unfold isFst at c2; unfold isNxt at c3; unfold isEnd at c4
    simp only [totB, h1, h2, h4, _root_.and_true, _root_.and_false, _root_.false_and, _root_.and_self, if_true, if_false]
    unfold tailProg owns
    iintro ⟨⟨%f0, %hf0, H0⟩, ⟨%f1, %hf1, H1⟩, ⟨%f2, %hf2, H2⟩, ⟨%f3, %hf3, H3⟩, Hk⟩
    obtain rfl := harg11.eq_unread hf0; obtain rfl := harg12.eq_unread hf1; obtain rfl := harg22.eq_unread hf2; obtain rfl := harg23.eq_unread hf3
    have hacc : View.readAt (Elt F) arg22.view (Rect.unit (s := S256x128) ![0, 0] S256x128.size inb_S256x128_S256x128_0_0).toLoadRect (harg22.unread acc) = acc := (View.readAt_full _ _ _).trans (harg22.read_unread _)
    have htot : View.readAt (Elt F) arg23.view (Rect.unit (s := S256x128) ![0, 0] S256x128.size inb_S256x128_S256x128_0_0).toLoadRect (harg23.unread tot) = tot := (View.readAt_full _ _ _).trans (harg23.read_unread _)
    sl_exec (disch := first | sl_exact c1 | sl_exact c2 | sl_exact c3 | sl_exact c4)
    sl_step
    iapply Hk
    isplitl [H0]
    · iexists _; isplitr; swap; · iexact H0
      ipureintro
      first
        | with_reducible exact harg11.read_unread _
        | exact (View.read_writes_full _ _ _ _ _).trans (congrArg k0_pay5 (View.readCov_full _ _ _ _ _))
    isplitl [H1]
    · iexists _; isplitr; swap; · iexact H1
      ipureintro
      first
        | with_reducible exact harg12.read_unread _
        | exact View.read_writes_full _ _ _ _ _
    isplitl [H2]
    · iexists _; isplitr; swap; · iexact H2
      ipureintro; exact harg22.read_unread _
    iexists _; isplitr; swap; · iexact H3
    ipureintro
    first
      | with_reducible exact harg23.read_unread _
      | exact View.read_writes_full _ _ _ _ _
end

end Cert.KernelIdeal.Gen

end
-- ==== Proof.KI.Run.lean ====
/- One grid point's run of the body: what every buffer holds after it, from the blocks it reads and what the scratch
   held before; at a sequence's first block of keys, and at a later one. -/
module

public import proofs.«01_k».proof.Proof.Gen.KernelIdeal.Skeleton
public import proofs.«01_k».proof.Proof.Gen.KernelIdeal.Frame
public import proofs.«01_k».proof.Proof.KI.Tail
@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg3 : Memref sig .tc .smem S72 .f32) (harg3 : arg3.IsWhole) (arg4 : Memref sig .tc .smem S72 .f32) (harg4 : arg4.IsWhole) (arg5 : Memref sig .tc .vmem S1x256x128 .bf16) (harg5 : arg5.IsWhole) (arg6 : Memref sig .tc .vmem S1x1x2048x128 .fp8e4m3) (harg6 : arg6.IsWhole) (arg7 : Memref sig .tc .vmem S1x1x2048x128 .fp8e4m3) (harg7 : arg7.IsWhole) (arg8 : Memref sig .tc .vmem S1x1x256x128 .bf16) (harg8 : arg8.IsWhole) (arg9 : Memref sig .tc .vmem S1x1x1x256 .f32) (harg9 : arg9.IsWhole) (arg10 : Memref sig .tc .vmem S1x1x256x128 .bf16) (harg10 : arg10.IsWhole) (arg11 : Memref sig .tc .vmem S1x256x128 .bf16) (harg11 : arg11.IsWhole) (arg12 : Memref sig .tc .vmem S1x1x256x128 .f32) (harg12 : arg12.IsWhole) (arg13 : Memref sig .tc .vmem S1x1x2048x128 .bf16) (harg13 : arg13.IsWhole) (arg14 : Memref sig .tc .vmem S1x1x2048x128 .bf16) (harg14 : arg14.IsWhole) (arg15 : Memref sig .tc .vmem S1x1x256x128 .fp8e5m2) (harg15 : arg15.IsWhole) (arg16 : Memref sig .tc .vmem S1x1x1x256 .f32) (harg16 : arg16.IsWhole) (arg17 : Memref sig .tc .vmem S128x256 .bf16) (harg17 : arg17.IsWhole) (arg18 : Memref sig .tc .vmem S128x256 .bf16) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole)

variable (x0 : Vec F S72 .f32) (x1 : Vec F S72 .f32) (x2 : Vec F S1x256x128 .bf16) (x3 : Vec F S1x1x2048x128 .fp8e4m3) (x4 : Vec F S1x1x2048x128 .fp8e4m3) (x5 : Vec F S1x1x256x128 .bf16) (x6 : Vec F S1x1x1x256 .f32) (x7 : Vec F S1x1x256x128 .bf16) (x8 : Vec F S1x256x128 .bf16) (x9 : Vec F S1x1x256x128 .f32) (a tot : Vec F S256x128 .f32)

open Classical in
/-- What the body leaves: the inputs as they were, the blocks written, the tables of the sequence, the running
    gradient of the queries from `a` before the point, the sum over the sequences from `tot`. -/
def heldAfter : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
    ∗ owns (c : Thread nD τ) arg13 fullShare (dkB i x0 x1 x2 x3 x4 x5 x6 x7) ∗ owns (c : Thread nD τ) arg14 fullShare (dvB i x0 x2 x3 x6 x7) ∗ owns (c : Thread nD τ) arg15 fullShare (codeB x7) ∗ owns (c : Thread nD τ) arg16 fullShare (scaleB x7) ∗ owns (c : Thread nD τ) arg17 fullShare (s0B x2) ∗ owns (c : Thread nD τ) arg18 fullShare (s1B x7) ∗ owns (c : Thread nD τ) arg19 fullShare (s2B x6) ∗ owns (c : Thread nD τ) arg20 fullShare (s3B (entryOf x1 i) x7) ∗ owns (c : Thread nD τ) arg21 fullShare (s4B x5 x7)
    ∗ owns (c : Thread nD τ) arg11 fullShare (if isLast i ∧ isEnd i then k0_pay5 (totB i (entryOf x0 i) (accB i x0 x1 x2 x3 x4 x5 x6 x7 a) tot) else x8) ∗ owns (c : Thread nD τ) arg12 fullShare (if isLast i then k0_pay2 (entryOf x0 i) (accB i x0 x1 x2 x3 x4 x5 x6 x7 a) else x9)
    ∗ owns (c : Thread nD τ) arg22 fullShare (accB i x0 x1 x2 x3 x4 x5 x6 x7 a) ∗ owns (c : Thread nD τ) arg23 fullShare (if isLast i then totB i (entryOf x0 i) (accB i x0 x1 x2 x3 x4 x5 x6 x7 a) tot else tot))

set_option maxHeartbeats 1000000 in
/-- The body at a sequence's first block. -/
theorem run_first (hc0 : k0_cond1 i = 1#1) (hx : isFst i ↔ ¬ isNxt i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare tot
      ∗ (heldAfter c i arg3 arg4 arg5 arg6 arg7 arg8 arg9 arg10 arg11 arg12 arg13 arg14 arg15 arg16 arg17 arg18 arg19 arg20 arg21 arg22 arg23 x0 x1 x2 x3 x4 x5 x6 x7 x8 x9 k0_pay25 tot -∗ K ⟨⟩))
    ⊢ wp frame (wpE (defs₀ (F := F)) Variants.none c none) E (cc0_latent_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    simp only [cc0_latent_attn_bwd_eq_skeleton]; unfold cc0_latent_attn_bwd_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg23.eq_unread hfs6
    have hks : View.readAt (Elt F) arg3.view (Rect.unit (s := S72) (k0_off1 i) S1.size (k0_off1_inb i)).toLoadRect (harg3.unread x0) (Shape.Idx.first (show 0 < S1.numel by rw [numel1_S1]; exact Nat.one_pos)) = entryOf x0 i := congrFun ((View.readAt_eq_ld _ _ _).trans (congrArg (fun z => View.ld z _) (harg3.read_unread _))) _
    have hvs : View.readAt (Elt F) arg4.view (Rect.unit (s := S72) (k0_off1 i) S1.size (k0_off1_inb i)).toLoadRect (harg4.unread x1) (Shape.Idx.first (show 0 < S1.numel by rw [numel1_S1]; exact Nat.one_pos)) = entryOf x1 i := congrFun ((View.readAt_eq_ld _ _ _).trans (congrArg (fun z => View.ld z _) (harg4.read_unread _))) _
    have h2 : View.readAt (Elt F) arg5.view (Rect.unit (s := S1x256x128) ![0, 0, 0] S1x256x128.size inb_S1x256x128_S1x256x128_0_0_0).toLoadRect (harg5.unread x2) = x2 := (View.readAt_full _ _ _).trans (harg5.read_unread _)
    have h5 : View.readAt (Elt F) arg8.view (Rect.unit (s := S1x1x256x128) ![0, 0, 0, 0] S1x1x256x128.size inb_S1x1x256x128_S1x1x256x128_0_0_0_0).toLoadRect (harg8.unread x5) = x5 := (View.readAt_full _ _ _).trans (harg8.read_unread _)
    have h6 : View.readAt (Elt F) arg9.view (Rect.unit (s := S1x1x1x256) ![0, 0, 0, 0] S1x1x1x256.size inb_S1x1x1x256_S1x1x1x256_0_0_0_0).toLoadRect (harg9.unread x6) = x6 := (View.readAt_full _ _ _).trans (harg9.read_unread _)
    have h7 : View.readAt (Elt F) arg10.view (Rect.unit (s := S1x1x256x128) ![0, 0, 0, 0] S1x1x256x128.size inb_S1x1x256x128_S1x1x256x128_0_0_0_0).toLoadRect (harg10.unread x7) = x7 := (View.readAt_full _ _ _).trans (harg10.read_unread _)
    have hk0 : View.readAt (Elt F) arg6.view ch0.toLoadRect (harg6.unread x3) = View.ld x3 ch0 := (View.readAt_eq_ld _ _ _).trans (congrArg (fun z => View.ld z _) (harg6.read_unread _))
    have hv0 : View.readAt (Elt F) arg7.view ch0.toLoadRect (harg7.unread x4) = View.ld x4 ch0 := (View.readAt_eq_ld _ _ _).trans (congrArg (fun z => View.ld z _) (harg7.read_unread _))
    have hk1 : View.readAt (Elt F) arg6.view ch1.toLoadRect (harg6.unread x3) = View.ld x3 ch1 := (View.readAt_eq_ld _ _ _).trans (congrArg (fun z => View.ld z _) (harg6.read_unread _))
    have hv1 : View.readAt (Elt F) arg7.view ch1.toLoadRect (harg7.unread x4) = View.ld x4 ch1 := (View.readAt_eq_ld _ _ _).trans (congrArg (fun z => View.ld z _) (harg7.read_unread _))
    have hk2 : View.readAt (Elt F) arg6.view ch2.toLoadRect (harg6.unread x3) = View.ld x3 ch2 := (View.readAt_eq_ld _ _ _).trans (congrArg (fun z => View.ld z _) (harg6.read_unread _))
    have hv2 : View.readAt (Elt F) arg7.view ch2.toLoadRect (harg7.unread x4) = View.ld x4 ch2 := (View.readAt_eq_ld _ _ _).trans (congrArg (fun z => View.ld z _) (harg7.read_unread _))
    have hk3 : View.readAt (Elt F) arg6.view ch3.toLoadRect (harg6.unread x3) = View.ld x3 ch3 := (View.readAt_eq_ld _ _ _).trans (congrArg (fun z => View.ld z _) (harg6.read_unread _))
    have hv3 : View.readAt (Elt F) arg7.view ch3.toLoadRect (harg7.unread x4) = View.ld x4 ch3 := (View.readAt_eq_ld _ _ _).trans (congrArg (fun z => View.ld z _) (harg7.read_unread _))
    have hk4 : View.readAt (Elt F) arg6.view ch4.toLoadRect (harg6.unread x3) = View.ld x3 ch4 := (View.readAt_eq_ld _ _ _).trans (congrArg (fun z => View.ld z _) (harg6.read_unread _))
    have hv4 : View.readAt (Elt F) arg7.view ch4.toLoadRect (harg7.unread x4) = View.ld x4 ch4 := (View.readAt_eq_ld _ _ _).trans (congrArg (fun z => View.ld z _) (harg7.read_unread _))
    have hk5 : View.readAt (Elt F) arg6.view ch5.toLoadRect (harg6.unread x3) = View.ld x3 ch5 := (View.readAt_eq_ld _ _ _).trans (congrArg (fun z => View.ld z _) (harg6.read_unread _))
    have hv5 : View.readAt (Elt F) arg7.view ch5.toLoadRect (harg7.unread x4) = View.ld x4 ch5 := (View.readAt_eq_ld _ _ _).trans (congrArg (fun z => View.ld z _) (harg7.read_unread _))
    have hk6 : View.readAt (Elt F) arg6.view ch6.toLoadRect (harg6.unread x3) = View.ld x3 ch6 := (View.readAt_eq_ld _ _ _).trans (congrArg (fun z => View.ld z _) (harg6.read_unread _))
    have hv6 : View.readAt (Elt F) arg7.view ch6.toLoadRect (harg7.unread x4) = View.ld x4 ch6 := (View.readAt_eq_ld _ _ _).trans (congrArg (fun z => View.ld z _) (harg7.read_unread _))
    have hk7 : View.readAt (Elt F) arg6.view ch7.toLoadRect (harg6.unread x3) = View.ld x3 ch7 := (View.readAt_eq_ld _ _ _).trans (congrArg (fun z => View.ld z _) (harg6.read_unread _))
    have hv7 : View.readAt (Elt F) arg7.view ch7.toLoadRect (harg7.unread x4) = View.ld x4 ch7 := (View.readAt_eq_ld _ _ _).trans (congrArg (fun z => View.ld z _) (harg7.read_unread _))
    set_option sl_exec.stopBefore "k0_cond2" in sl_exec (disch := first | sl_exact hc0)
    have e0 : arg17.view.readCov [⟨(Rect.unit (s := S128x256) ![0, 0] S128x256.size inb_S128x256_S128x256_0_0), (s0B x2)⟩] (Rect.unit (s := S128x256) ![0, 0] S128x256.size inb_S128x256_S128x256_0_0).toLoadRect = (s0B x2) := View.readCov_full _ _ _ _ _
    have e1 : arg18.view.readCov [⟨(Rect.unit (s := S128x256) ![0, 0] S128x256.size inb_S128x256_S128x256_0_0), (s1B x7)⟩] (Rect.unit (s := S128x256) ![0, 0] S128x256.size inb_S128x256_S128x256_0_0).toLoadRect = (s1B x7) := View.readCov_full _ _ _ _ _
    have e2 : arg19.view.readCov [⟨(Rect.unit (s := S256x128) ![0, 0] S256x128.size inb_S256x128_S256x128_0_0), (s2B x6)⟩] (Rect.unit (s := S256x128) ![0, 0] S256x128.size inb_S256x128_S256x128_0_0).toLoadRect = (s2B x6) := View.readCov_full _ _ _ _ _
    have e3 : arg20.view.readCov [⟨(Rect.unit (s := S256x128) ![0, 0] S256x128.size inb_S256x128_S256x128_0_0), s3B (View.readAt (Elt F) arg4.view (Rect.unit (s := S72) (k0_off1 i) S1.size (k0_off1_inb i)).toLoadRect (harg4.unread x1) (Shape.Idx.first (show 0 < S1.numel by rw [numel1_S1]; exact Nat.one_pos))) x7⟩] (Rect.unit (s := S256x128) ![0, 0] S256x128.size inb_S256x128_S256x128_0_0).toLoadRect = s3B (entryOf x1 i) x7 := (View.readCov_full _ _ _ _ _).trans (congrArg (fun z => s3B z x7) hvs)
    have e4 : arg21.view.readCov [⟨(Rect.unit (s := S256x128) ![0, 0] S256x128.size inb_S256x128_S256x128_0_0), (s4B x5 x7)⟩] (Rect.unit (s := S256x128) ![0, 0] S256x128.size inb_S256x128_S256x128_0_0).toLoadRect = (s4B x5 x7) := View.readCov_full _ _ _ _ _
    have e5' : ∀ z : Vec F S256x128 .f32, arg22.view.readCov [⟨(Rect.unit (s := S256x128) ![0, 0] S256x128.size inb_S256x128_S256x128_0_0), z⟩] (Rect.unit (s := S256x128) ![0, 0] S256x128.size inb_S256x128_S256x128_0_0).toLoadRect = z := fun z => View.readCov_full _ _ _ _ _
    have e5 := e5' k0_pay25
    have ec : arg15.view.readCov [⟨(Rect.unit (s := S1x1x256x128) ![0, 0, 0, 0] S1x1x256x128.size inb_S1x1x256x128_S1x1x256x128_0_0_0_0), (codeB x7)⟩] (Rect.unit (s := S1x1x256x128) ![0, 0, 0, 0] S1x1x256x128.size inb_S1x1x256x128_S1x1x256x128_0_0_0_0).toLoadRect = (codeB x7) := View.readCov_full _ _ _ _ _
    have edv := dvT_of hks (rfl : x2 = x2) e1 e2 rfl rfl rfl rfl rfl rfl rfl rfl (x3 := x3)
    have edk := dkT_of hks (rfl : x2 = x2) e0 ec e2 e3 e4 rfl rfl rfl rfl rfl rfl rfl rfl rfl rfl rfl rfl rfl rfl rfl rfl (x3 := x3) (x4 := x4)
    have eac := accT_of hks (rfl : x2 = x2) ec e2 e3 e4 rfl rfl rfl rfl rfl rfl rfl rfl rfl rfl rfl rfl rfl rfl rfl rfl e5 (x3 := x3) (x4 := x4)
    iapply (tail_run c i arg11 harg11 arg12 harg12 arg22 harg22 arg23 harg23 hx _ _ hks (accB i x0 x1 x2 x3 x4 x5 x6 x7 k0_pay25) tot x8 x9 E K)
    unfold owns heldAfter
    isplitl [H8]
    · iexists _; isplitr; swap; · iexact H8
      ipureintro; exact harg11.read_unread _
    isplitl [H9]
    · iexists _; isplitr; swap; · iexact H9
      ipureintro; exact harg12.read_unread _
    isplitl [HS5]
    · iexists _; isplitr; swap; · iexact HS5
      ipureintro; exact (View.read_writes_full _ _ _ _ _).trans eac
    isplitl [HS6]
    · iexists _; isplitr; swap; · iexact HS6
      ipureintro; exact harg23.read_unread _
    iintro ⟨⟨%g0, %hg0, G0⟩, ⟨%g1, %hg1, G1⟩, ⟨%g2, %hg2, G2⟩, ⟨%g3, %hg3, G3⟩⟩
    iapply Hk
    unfold owns
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact harg9.read_unread _
    isplitl [H7]
    · iexists _; isplitr; swap; · iexact H7
      ipureintro; exact harg10.read_unread _
    isplitl [H10]
    · iexists _; isplitr; swap; · iexact H10
      ipureintro; refine (View.read_writes_eq_canon (Val := Elt F) arg13.view f10 _ (View.cover_of_tiled _ S1x1x256x128.size ?hc)).trans ?he; (case hc => rfl); (case he => exact edk)
    isplitl [H11]
    · iexists _; isplitr; swap; · iexact H11
      ipureintro; refine (View.read_writes_eq_canon (Val := Elt F) arg14.view f11 _ (View.cover_of_tiled _ S1x1x256x128.size ?hc)).trans ?he; (case hc => rfl); (case he => exact edv)
    isplitl [H12]
    · iexists _; isplitr; swap; · iexact H12
      ipureintro; exact View.read_writes_full _ _ _ _ _
    isplitl [H13]
    · iexists _; isplitr; swap; · iexact H13
      ipureintro; exact View.read_writes_full _ _ _ _ _
    isplitl [HS0]
    · iexists _; isplitr; swap; · iexact HS0
      ipureintro; exact View.read_writes_full _ _ _ _ _
    isplitl [HS1]
    · iexists _; isplitr; swap; · iexact HS1
      ipureintro; exact View.read_writes_full _ _ _ _ _
    isplitl [HS2]
    · iexists _; isplitr; swap; · iexact HS2
      ipureintro; exact View.read_writes_full _ _ _ _ _
    isplitl [HS3]
    · iexists _; isplitr; swap; · iexact HS3
      ipureintro; exact (View.read_writes_full _ _ _ _ _).trans (congrArg (fun z => s3B z x7) hvs)
    isplitl [HS4]
    · iexists _; isplitr; swap; · iexact HS4
      ipureintro; exact View.read_writes_full _ _ _ _ _
    isplitl [G0]
    · iexists _; isplitr; swap; · iexact G0
      ipureintro; exact hg0
    isplitl [G1]
    · iexists _; isplitr; swap; · iexact G1
      ipureintro; exact hg1
    isplitl [G2]
    · iexists _; isplitr; swap; · iexact G2
      ipureintro; exact hg2
    iexists _; isplitr; swap; · iexact G3
    ipureintro; exact hg3
set_option maxHeartbeats 1000000 in
/-- The body at a later block of the same sequence and row block. -/
theorem run_later (hc0 : ¬ k0_cond1 i = 1#1) (hx : isFst i ↔ ¬ isNxt i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ owns (c : Thread nD τ) arg15 fullShare (codeB x7) ∗ owns (c : Thread nD τ) arg16 fullShare (scaleB x7) ∗ owns (c : Thread nD τ) arg17 fullShare (s0B x2) ∗ owns (c : Thread nD τ) arg18 fullShare (s1B x7) ∗ owns (c : Thread nD τ) arg19 fullShare (s2B x6) ∗ owns (c : Thread nD τ) arg20 fullShare (s3B (entryOf x1 i) x7) ∗ owns (c : Thread nD τ) arg21 fullShare (s4B x5 x7) ∗ owns (c : Thread nD τ) arg22 fullShare a ∗ owns (c : Thread nD τ) arg23 fullShare tot
      ∗ (heldAfter c i arg3 arg4 arg5 arg6 arg7 arg8 arg9 arg10 arg11 arg12 arg13 arg14 arg15 arg16 arg17 arg18 arg19 arg20 arg21 arg22 arg23 x0 x1 x2 x3 x4 x5 x6 x7 x8 x9 a tot -∗ K ⟨⟩))
    ⊢ wp frame (wpE (defs₀ (F := F)) Variants.none c none) E (cc0_latent_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    simp only [cc0_latent_attn_bwd_eq_skeleton]; unfold cc0_latent_attn_bwd_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg15.eq_unread hf12; obtain rfl := harg16.eq_unread hf13; obtain rfl := harg17.eq_unread hfs0; obtain rfl := harg18.eq_unread hfs1; obtain rfl := harg19.eq_unread hfs2; obtain rfl := harg20.eq_unread hfs3; obtain rfl := harg21.eq_unread hfs4; obtain rfl := harg22.eq_unread hfs5; obtain rfl := harg23.eq_unread hfs6
    have hks : View.readAt (Elt F) arg3.view (Rect.unit (s := S72) (k0_off1 i) S1.size (k0_off1_inb i)).toLoadRect (harg3.unread x0) (Shape.Idx.first (show 0 < S1.numel by rw [numel1_S1]; exact Nat.one_pos)) = entryOf x0 i := congrFun ((View.readAt_eq_ld _ _ _).trans (congrArg (fun z => View.ld z _) (harg3.read_unread _))) _
    have hvs : View.readAt (Elt F) arg4.view (Rect.unit (s := S72) (k0_off1 i) S1.size (k0_off1_inb i)).toLoadRect (harg4.unread x1) (Shape.Idx.first (show 0 < S1.numel by rw [numel1_S1]; exact Nat.one_pos)) = entryOf x1 i := congrFun ((View.readAt_eq_ld _ _ _).trans (congrArg (fun z => View.ld z _) (harg4.read_unread _))) _
    have h2 : View.readAt (Elt F) arg5.view (Rect.unit (s := S1x256x128) ![0, 0, 0] S1x256x128.size inb_S1x256x128_S1x256x128_0_0_0).toLoadRect (harg5.unread x2) = x2 := (View.readAt_full _ _ _).trans (harg5.read_unread _)
    have h5 : View.readAt (Elt F) arg8.view (Rect.unit (s := S1x1x256x128) ![0, 0, 0, 0] S1x1x256x128.size inb_S1x1x256x128_S1x1x256x128_0_0_0_0).toLoadRect (harg8.unread x5) = x5 := (View.readAt_full _ _ _).trans (harg8.read_unread _)
    have h6 : View.readAt (Elt F) arg9.view (Rect.unit (s := S1x1x1x256) ![0, 0, 0, 0] S1x1x1x256.size inb_S1x1x1x256_S1x1x1x256_0_0_0_0).toLoadRect (harg9.unread x6) = x6 := (View.readAt_full _ _ _).trans (harg9.read_unread _)
    have h7 : View.readAt (Elt F) arg10.view (Rect.unit (s := S1x1x256x128) ![0, 0, 0, 0] S1x1x256x128.size inb_S1x1x256x128_S1x1x256x128_0_0_0_0).toLoadRect (harg10.unread x7) = x7 := (View.readAt_full _ _ _).trans (harg10.read_unread _)
    have hk0 : View.readAt (Elt F) arg6.view ch0.toLoadRect (harg6.unread x3) = View.ld x3 ch0 := (View.readAt_eq_ld _ _ _).trans (congrArg (fun z => View.ld z _) (harg6.read_unread _))
    have hv0 : View.readAt (Elt F) arg7.view ch0.toLoadRect (harg7.unread x4) = View.ld x4 ch0 := (View.readAt_eq_ld _ _ _).trans (congrArg (fun z => View.ld z _) (harg7.read_unread _))
    have hk1 : View.readAt (Elt F) arg6.view ch1.toLoadRect (harg6.unread x3) = View.ld x3 ch1 := (View.readAt_eq_ld _ _ _).trans (congrArg (fun z => View.ld z _) (harg6.read_unread _))
    have hv1 : View.readAt (Elt F) arg7.view ch1.toLoadRect (harg7.unread x4) = View.ld x4 ch1 := (View.readAt_eq_ld _ _ _).trans (congrArg (fun z => View.ld z _) (harg7.read_unread _))
    have hk2 : View.readAt (Elt F) arg6.view ch2.toLoadRect (harg6.unread x3) = View.ld x3 ch2 := (View.readAt_eq_ld _ _ _).trans (congrArg (fun z => View.ld z _) (harg6.read_unread _))
    have hv2 : View.readAt (Elt F) arg7.view ch2.toLoadRect (harg7.unread x4) = View.ld x4 ch2 := (View.readAt_eq_ld _ _ _).trans (congrArg (fun z => View.ld z _) (harg7.read_unread _))
    have hk3 : View.readAt (Elt F) arg6.view ch3.toLoadRect (harg6.unread x3) = View.ld x3 ch3 := (View.readAt_eq_ld _ _ _).trans (congrArg (fun z => View.ld z _) (harg6.read_unread _))
    have hv3 : View.readAt (Elt F) arg7.view ch3.toLoadRect (harg7.unread x4) = View.ld x4 ch3 := (View.readAt_eq_ld _ _ _).trans (congrArg (fun z => View.ld z _) (harg7.read_unread _))
    have hk4 : View.readAt (Elt F) arg6.view ch4.toLoadRect (harg6.unread x3) = View.ld x3 ch4 := (View.readAt_eq_ld _ _ _).trans (congrArg (fun z => View.ld z _) (harg6.read_unread _))
    have hv4 : View.readAt (Elt F) arg7.view ch4.toLoadRect (harg7.unread x4) = View.ld x4 ch4 := (View.readAt_eq_ld _ _ _).trans (congrArg (fun z => View.ld z _) (harg7.read_unread _))
    have hk5 : View.readAt (Elt F) arg6.view ch5.toLoadRect (harg6.unread x3) = View.ld x3 ch5 := (View.readAt_eq_ld _ _ _).trans (congrArg (fun z => View.ld z _) (harg6.read_unread _))
    have hv5 : View.readAt (Elt F) arg7.view ch5.toLoadRect (harg7.unread x4) = View.ld x4 ch5 := (View.readAt_eq_ld _ _ _).trans (congrArg (fun z => View.ld z _) (harg7.read_unread _))
    have hk6 : View.readAt (Elt F) arg6.view ch6.toLoadRect (harg6.unread x3) = View.ld x3 ch6 := (View.readAt_eq_ld _ _ _).trans (congrArg (fun z => View.ld z _) (harg6.read_unread _))
    have hv6 : View.readAt (Elt F) arg7.view ch6.toLoadRect (harg7.unread x4) = View.ld x4 ch6 := (View.readAt_eq_ld _ _ _).trans (congrArg (fun z => View.ld z _) (harg7.read_unread _))
    have hk7 : View.readAt (Elt F) arg6.view ch7.toLoadRect (harg6.unread x3) = View.ld x3 ch7 := (View.readAt_eq_ld _ _ _).trans (congrArg (fun z => View.ld z _) (harg6.read_unread _))
    have hv7 : View.readAt (Elt F) arg7.view ch7.toLoadRect (harg7.unread x4) = View.ld x4 ch7 := (View.readAt_eq_ld _ _ _).trans (congrArg (fun z => View.ld z _) (harg7.read_unread _))
    have e0 : View.readAt (Elt F) arg17.view (Rect.unit (s := S128x256) ![0, 0] S128x256.size inb_S128x256_S128x256_0_0).toLoadRect (harg17.unread (s0B x2)) = (s0B x2) := (View.readAt_full _ _ _).trans (harg17.read_unread _)
    have e1 : View.readAt (Elt F) arg18.view (Rect.unit (s := S128x256) ![0, 0] S128x256.size inb_S128x256_S128x256_0_0).toLoadRect (harg18.unread (s1B x7)) = (s1B x7) := (View.readAt_full _ _ _).trans (harg18.read_unread _)
    have e2 : View.readAt (Elt F) arg19.view (Rect.unit (s := S256x128) ![0, 0] S256x128.size inb_S256x128_S256x128_0_0).toLoadRect (harg19.unread (s2B x6)) = (s2B x6) := (View.readAt_full _ _ _).trans (harg19.read_unread _)
    have e3 : View.readAt (Elt F) arg20.view (Rect.unit (s := S256x128) ![0, 0] S256x128.size inb_S256x128_S256x128_0_0).toLoadRect (harg20.unread (s3B (entryOf x1 i) x7)) = (s3B (entryOf x1 i) x7) := (View.readAt_full _ _ _).trans (harg20.read_unread _)
    have e4 : View.readAt (Elt F) arg21.view (Rect.unit (s := S256x128) ![0, 0] S256x128.size inb_S256x128_S256x128_0_0).toLoadRect (harg21.unread (s4B x5 x7)) = (s4B x5 x7) := (View.readAt_full _ _ _).trans (harg21.read_unread _)
    have e5 : View.readAt (Elt F) arg22.view (Rect.unit (s := S256x128) ![0, 0] S256x128.size inb_S256x128_S256x128_0_0).toLoadRect (harg22.unread a) = a := (View.readAt_full _ _ _).trans (harg22.read_unread _)
    have ec : View.readAt (Elt F) arg15.view (Rect.unit (s := S1x1x256x128) ![0, 0, 0, 0] S1x1x256x128.size inb_S1x1x256x128_S1x1x256x128_0_0_0_0).toLoadRect (harg15.unread (codeB x7)) = (codeB x7) := (View.readAt_full _ _ _).trans (harg15.read_unread _)
    set_option sl_exec.stopBefore "k0_cond2" in sl_exec (disch := first | sl_exact hc0)
    have edv := dvT_of hks (rfl : x2 = x2) (rfl : s1B x7 = s1B x7) (rfl : s2B x6 = s2B x6) rfl rfl rfl rfl rfl rfl rfl rfl (x3 := x3)
    have edk := dkT_of hks (rfl : x2 = x2) (rfl : s0B x2 = s0B x2) (rfl : codeB x7 = codeB x7) (rfl : s2B x6 = s2B x6) (rfl : s3B (entryOf x1 i) x7 = s3B (entryOf x1 i) x7) (rfl : s4B x5 x7 = s4B x5 x7) rfl rfl rfl rfl rfl rfl rfl rfl rfl rfl rfl rfl rfl rfl rfl rfl (x3 := x3) (x4 := x4)
    have eac := accT_of hks (rfl : x2 = x2) (rfl : codeB x7 = codeB x7) (rfl : s2B x6 = s2B x6) (rfl : s3B (entryOf x1 i) x7 = s3B (entryOf x1 i) x7) (rfl : s4B x5 x7 = s4B x5 x7) rfl rfl rfl rfl rfl rfl rfl rfl rfl rfl rfl rfl rfl rfl rfl rfl (rfl : a = a) (x3 := x3) (x4 := x4)
    iapply (tail_run c i arg11 harg11 arg12 harg12 arg22 harg22 arg23 harg23 hx _ _ hks (accB i x0 x1 x2 x3 x4 x5 x6 x7 a) tot x8 x9 E K)
    unfold owns heldAfter
    isplitl [H8]
    · iexists _; isplitr; swap; · iexact H8
      ipureintro; exact harg11.read_unread _
    isplitl [H9]
    · iexists _; isplitr; swap; · iexact H9
      ipureintro; exact harg12.read_unread _
    isplitl [HS5]
    · iexists _; isplitr; swap; · iexact HS5
      ipureintro; exact (View.read_writes_full _ _ _ _ _).trans eac
    isplitl [HS6]
    · iexists _; isplitr; swap; · iexact HS6
      ipureintro; exact harg23.read_unread _
    iintro ⟨⟨%g0, %hg0, G0⟩, ⟨%g1, %hg1, G1⟩, ⟨%g2, %hg2, G2⟩, ⟨%g3, %hg3, G3⟩⟩
    iapply Hk
    unfold owns
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact harg9.read_unread _
    isplitl [H7]
    · iexists _; isplitr; swap; · iexact H7
      ipureintro; exact harg10.read_unread _
    isplitl [H10]
    · iexists _; isplitr; swap; · iexact H10
      ipureintro; refine (View.read_writes_eq_canon (Val := Elt F) arg13.view f10 _ (View.cover_of_tiled _ S1x1x256x128.size ?hc)).trans ?he; (case hc => rfl); (case he => exact edk)
    isplitl [H11]
    · iexists _; isplitr; swap; · iexact H11
      ipureintro; refine (View.read_writes_eq_canon (Val := Elt F) arg14.view f11 _ (View.cover_of_tiled _ S1x1x256x128.size ?hc)).trans ?he; (case hc => rfl); (case he => exact edv)
    isplitl [H12]
    · iexists _; isplitr; swap; · iexact H12
      ipureintro; exact harg15.read_unread _
    isplitl [H13]
    · iexists _; isplitr; swap; · iexact H13
      ipureintro; exact harg16.read_unread _
    isplitl [HS0]
    · iexists _; isplitr; swap; · iexact HS0
      ipureintro; exact harg17.read_unread _
    isplitl [HS1]
    · iexists _; isplitr; swap; · iexact HS1
      ipureintro; exact harg18.read_unread _
    isplitl [HS2]
    · iexists _; isplitr; swap; · iexact HS2
      ipureintro; exact harg19.read_unread _
    isplitl [HS3]
    · iexists _; isplitr; swap; · iexact HS3
      ipureintro; exact harg20.read_unread _
    isplitl [HS4]
    · iexists _; isplitr; swap; · iexact HS4
      ipureintro; exact harg21.read_unread _
    isplitl [G0]
    · iexists _; isplitr; swap; · iexact G0
      ipureintro; exact hg0
    isplitl [G1]
    · iexists _; isplitr; swap; · iexact G1
      ipureintro; exact hg1
    isplitl [G2]
    · iexists _; isplitr; swap; · iexact G2
      ipureintro; exact hg2
    iexists _; isplitr; swap; · iexact G3
    ipureintro; exact hg3

end Cert.KernelIdeal.Gen

end
-- ==== Proof.KI.Frame.lean ====
module

public import proofs.«01_k».proof.Proof.KI.Run
public import Idealize.ShloMosaic.Lib.Claim
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branch conditions over the points -/

theorem first_iff (t : Fin cfg0.N) : k0_cond1 (grid0.coords t) = 1#1 ↔ t.val % 8 = 0 := by
  have ht : t.val < 576 := Nat.lt_of_lt_of_eq t.isLt N_0
  have e0 : (grid0.coords t 0).val = t.val / 96 % 6 := Pipeline.Grid.coords_val t 0 (by decide) rfl
  have e1 : (grid0.coords t 1).val = t.val / 8 % 12 := Pipeline.Grid.coords_val t 1 (by decide) rfl
  have e2 : (grid0.coords t 2).val = t.val / 1 % 8 := Pipeline.Grid.coords_val t 2 (by decide) rfl
  simp only [k0_cond1, e0, e1, e2]
  word_cmp

theorem isLast_iff (t : Fin cfg0.N) : isLast (grid0.coords t) ↔ t.val % 8 = 7 := by
  have ht : t.val < 576 := Nat.lt_of_lt_of_eq t.isLt N_0
  have e0 : (grid0.coords t 0).val = t.val / 96 % 6 := Pipeline.Grid.coords_val t 0 (by decide) rfl
  have e1 : (grid0.coords t 1).val = t.val / 8 % 12 := Pipeline.Grid.coords_val t 1 (by decide) rfl
  have e2 : (grid0.coords t 2).val = t.val / 1 % 8 := Pipeline.Grid.coords_val t 2 (by decide) rfl
  simp only [isLast, k0_cond2, e0, e1, e2]
  word_cmp

theorem isFst_iff (t : Fin cfg0.N) : isFst (grid0.coords t) ↔ t.val / 8 % 12 = 0 := by
  have ht : t.val < 576 := Nat.lt_of_lt_of_eq t.isLt N_0
  have e0 : (grid0.coords t 0).val = t.val / 96 % 6 := Pipeline.Grid.coords_val t 0 (by decide) rfl
  have e1 : (grid0.coords t 1).val = t.val / 8 % 12 := Pipeline.Grid.coords_val t 1 (by decide) rfl
  have e2 : (grid0.coords t 2).val = t.val / 1 % 8 := Pipeline.Grid.coords_val t 2 (by decide) rfl
  simp only [isFst, e0, e1, e2]
  word_cmp

theorem isNxt_iff (t : Fin cfg0.N) : isNxt (grid0.coords t) ↔ 0 < t.val / 8 % 12 := by
  have ht : t.val < 576 := Nat.lt_of_lt_of_eq t.isLt N_0
  have e0 : (grid0.coords t 0).val = t.val / 96 % 6 := Pipeline.Grid.coords_val t 0 (by decide) rfl
  have e1 : (grid0.coords t 1).val = t.val / 8 % 12 := Pipeline.Grid.coords_val t 1 (by decide) rfl
  have e2 : (grid0.coords t 2).val = t.val / 1 % 8 := Pipeline.Grid.coords_val t 2 (by decide) rfl
  simp only [isNxt, e0, e1, e2]
  word_cmp

theorem isEnd_iff (t : Fin cfg0.N) : isEnd (grid0.coords t) ↔ t.val / 8 % 12 = 11 := by
  have ht : t.val < 576 := Nat.lt_of_lt_of_eq t.isLt N_0
  have e0 : (grid0.coords t 0).val = t.val / 96 % 6 := Pipeline.Grid.coords_val t 0 (by decide) rfl
  have e1 : (grid0.coords t 1).val = t.val / 8 % 12 := Pipeline.Grid.coords_val t 1 (by decide) rfl
  have e2 : (grid0.coords t 2).val = t.val / 1 % 8 := Pipeline.Grid.coords_val t 2 (by decide) rfl
  simp only [isEnd, k0_cond5, e0, e1, e2]
  word_cmp

theorem fst_or_nxt (t : Fin cfg0.N) : isFst (grid0.coords t) ↔ ¬ isNxt (grid0.coords t) := by
  rw [isFst_iff, isNxt_iff]; omega

/-! ## Where the windows are idle -/

theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
theorem live_3 (t : Fin cfg0.N) : cfg0.idle 3 (grid0.coords t) = false := rfl
theorem live_4 (t : Fin cfg0.N) : cfg0.idle 4 (grid0.coords t) = false := rfl
theorem live_5 (t : Fin cfg0.N) : cfg0.idle 5 (grid0.coords t) = false := rfl
theorem live_6 (t : Fin cfg0.N) : cfg0.idle 6 (grid0.coords t) = false := rfl
theorem live_7 (t : Fin cfg0.N) : cfg0.idle 7 (grid0.coords t) = false := rfl
theorem live_10 (t : Fin cfg0.N) : cfg0.idle 10 (grid0.coords t) = false := rfl
theorem live_11 (t : Fin cfg0.N) : cfg0.idle 11 (grid0.coords t) = false := rfl
theorem idle_8 : ∀ t : Fin cfg0.N, t.val % 96 ≠ 95 → cfg0.idle 8 (grid0.coords t) = true := by decide +kernel
theorem live_8 : ∀ t : Fin cfg0.N, t.val % 96 = 95 → cfg0.idle 8 (grid0.coords t) = false := by decide +kernel
theorem idle_9 : ∀ t : Fin cfg0.N, t.val % 8 ≠ 7 → cfg0.idle 9 (grid0.coords t) = true := by decide +kernel
theorem live_9 : ∀ t : Fin cfg0.N, t.val % 8 = 7 → cfg0.idle 9 (grid0.coords t) = false := by decide +kernel
theorem idle_12 : ∀ t : Fin cfg0.N, t.val % 8 ≠ 0 → cfg0.idle 12 (grid0.coords t) = true := by decide +kernel
theorem live_12 : ∀ t : Fin cfg0.N, t.val % 8 = 0 → cfg0.idle 12 (grid0.coords t) = false := by decide +kernel
theorem idle_13 : ∀ t : Fin cfg0.N, t.val % 8 ≠ 0 → cfg0.idle 13 (grid0.coords t) = true := by decide +kernel
theorem live_13 : ∀ t : Fin cfg0.N, t.val % 8 = 0 → cfg0.idle 13 (grid0.coords t) = false := by decide +kernel

/-! ## The memrefs -/

abbrev ms0_0 (t : Fin cfg0.N) : Memref sig .tc .smem S72 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S72 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x256x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x2048x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x2048x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x256x128 .fp8e5m2 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x1x256 .f32 := win0_13.stage (cfg0.slots t 13)
abbrev hs0_13 (t : Fin cfg0.N) : (ms0_13 t).IsWhole := hstage0_13 ((cfg0.slots t 13).cast nbuf0_13)
abbrev scM0_0 : Memref sig .tc .vmem S128x256 .bf16 := Memref.whole cc0_scratch0
abbrev scM0_1 : Memref sig .tc .vmem S128x256 .bf16 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x128 .f32 := Memref.whole cc0_scratch6

/-- The scratch buffers at any contents and the generator register at some state. -/
theorem scratch_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-! ## What the running sums hold after each point -/

/-- One block's contribution to the gradient of the queries, added to `a`. -/
def accP (c : Dev nD) (t : Fin cfg0.N) (a : Vec F S256x128 .f32) : Vec F S256x128 .f32 :=
  accB (grid0.coords t) (iblk m c 0 t) (iblk m c 1 t) (iblk m c 2 t) (iblk m c 3 t) (iblk m c 4 t) (iblk m c 5 t) (iblk m c 6 t) (iblk m c 7 t) a

/-- The factor of the point's pair of a head and a sequence. -/
def ksAt (c : Dev nD) (t : Fin cfg0.N) : F .f32 := entryOf (iblk m c 0 t) (grid0.coords t)
/-- The same for the values. -/
def vsAt (c : Dev nD) (t : Fin cfg0.N) : F .f32 := entryOf (iblk m c 1 t) (grid0.coords t)

/-- The running gradient after point `n`: started anew at a sequence's first block. -/
def accAt (c : Dev nD) : (n : ℕ) → n < cfg0.N → Vec F S256x128 .f32
  | 0, hn => accP m c ⟨0, hn⟩ k0_pay25
  | n + 1, hn => accP m c ⟨n + 1, hn⟩ (if (n + 1) % 8 = 0 then k0_pay25 else accAt c n (Nat.lt_of_succ_lt hn))

/-- The sum over the sequences after point `n`: changed at a sequence's last block. -/
def totAt (c : Dev nD) : (n : ℕ) → n < cfg0.N → Vec F S256x128 .f32
  | 0, hn => k0_pay25
  | n + 1, hn => if (n + 1) % 8 = 7 then totB (grid0.coords ⟨n + 1, hn⟩) (ksAt m c ⟨n + 1, hn⟩) (accAt m c (n + 1) hn) (totAt c n (Nat.lt_of_succ_lt hn))
      else totAt c n (Nat.lt_of_succ_lt hn)

theorem accAt_first (c : Dev nD) (t : Fin cfg0.N) (h : t.val % 8 = 0) : accAt m c t.val t.isLt = accP m c t k0_pay25 := by
  obtain ⟨n, hn⟩ := t
  cases n with
  | zero => rfl
  | succ n => exact congrArg (accP m c ⟨n + 1, hn⟩) (if_pos h)
theorem accAt_later (c : Dev nD) (t : Fin cfg0.N) (h : ¬ t.val % 8 = 0) :
    accAt m c t.val t.isLt = accP m c t (accAt m c (t.val - 1) (Nat.lt_of_le_of_lt (Nat.sub_le _ _) t.isLt)) := by
  obtain ⟨n, hn⟩ := t
  cases n with
  | zero => exact absurd (Nat.zero_mod _) h
  | succ n => exact congrArg (accP m c ⟨n + 1, hn⟩) (if_neg h)
theorem totAt_last (c : Dev nD) (t : Fin cfg0.N) (h : t.val % 8 = 7) :
    totAt m c t.val t.isLt = totB (grid0.coords t) (ksAt m c t) (accAt m c t.val t.isLt) (totAt m c (t.val - 1) (Nat.lt_of_le_of_lt (Nat.sub_le _ _) t.isLt)) := by
  obtain ⟨n, hn⟩ := t
  cases n with
  | zero => exact absurd h (by decide : ¬ 0 % 8 = 7)
  | succ n => exact if_pos h
theorem totAt_other (c : Dev nD) (t : Fin cfg0.N) (h : ¬ t.val % 8 = 7) (h0 : t.val ≠ 0) :
    totAt m c t.val t.isLt = totAt m c (t.val - 1) (Nat.lt_of_le_of_lt (Nat.sub_le _ _) t.isLt) := by
  obtain ⟨n, hn⟩ := t
  cases n with
  | zero => exact absurd rfl h0
  | succ n => exact if_neg h

/-- The scratch before point `n`: within a sequence, what its first block stored and the running gradient; past a
    head's first sequence, the sum over the sequences so far. -/
def Inv (c : Dev nD) (n : ℕ) (y0 : Vec F S128x256 .bf16) (y1 : Vec F S128x256 .bf16) (y2 y3 y4 y5 y6 : Vec F S256x128 .f32) : Prop :=
  ∀ h : n < cfg0.N,
    (¬ n % 8 = 0 → y0 = s0B (iblk m c 2 ⟨n, h⟩) ∧ y1 = s1B (iblk m c 7 ⟨n, h⟩) ∧ y2 = s2B (iblk m c 6 ⟨n, h⟩)
      ∧ y3 = s3B (vsAt m c ⟨n, h⟩) (iblk m c 7 ⟨n, h⟩) ∧ y4 = s4B (iblk m c 5 ⟨n, h⟩) (iblk m c 7 ⟨n, h⟩)
      ∧ y5 = accAt m c (n - 1) (Nat.lt_of_le_of_lt (Nat.sub_le _ _) h))
    ∧ (8 ≤ n % 96 → y6 = totAt m c (n - 1) (Nat.lt_of_le_of_lt (Nat.sub_le _ _) h))

/-- The region's invariant before point `n`. -/
def PhiS (c : Dev nD) (n : ℕ) : sProp 𝕄 :=
  iprop(∃ y0, ∃ y1, ∃ y2, ∃ y3, ∃ y4, ∃ y5, ∃ y6, ⌜Inv m c n y0 y1 y2 y3 y4 y5 y6⌝ ∗ iprop(owns (c : Thread nD τ) scM0_0 fullShare y0 ∗ owns (c : Thread nD τ) scM0_1 fullShare y1 ∗ owns (c : Thread nD τ) scM0_2 fullShare y2 ∗ owns (c : Thread nD τ) scM0_3 fullShare y3 ∗ owns (c : Thread nD τ) scM0_4 fullShare y4 ∗ owns (c : Thread nD τ) scM0_5 fullShare y5 ∗ owns (c : Thread nD τ) scM0_6 fullShare y6) ∗ (∃ r, prngReg c r))

/-! ## The pipeline's proof data -/

/-- The arrays as the region finds them, and what each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay5 (totAt m c t.val t.isLt)
    | ⟨9, _⟩ => k0_pay2 (ksAt m c t) (accAt m c t.val t.isLt)
    | ⟨10, _⟩ => dkB (grid0.coords t) (iblk m c 0 t) (iblk m c 1 t) (iblk m c 2 t) (iblk m c 3 t) (iblk m c 4 t) (iblk m c 5 t) (iblk m c 6 t) (iblk m c 7 t)
    | ⟨11, _⟩ => dvB (grid0.coords t) (iblk m c 0 t) (iblk m c 2 t) (iblk m c 3 t) (iblk m c 6 t) (iblk m c 7 t)
    | ⟨12, _⟩ => codeB (iblk m c 7 t)
    | ⟨13, _⟩ => scaleB (iblk m c 7 t)
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = k0_pay5 (totAt m c t.val t.isLt) := by dsimp only [dats]
theorem after_9 (c : Dev nD) (t : Fin cfg0.N) : (dats m 0 c).after 9 t = k0_pay2 (ksAt m c t) (accAt m c t.val t.isLt) := by dsimp only [dats]
theorem after_10 (c : Dev nD) (t : Fin cfg0.N) : (dats m 0 c).after 10 t = dkB (grid0.coords t) (iblk m c 0 t) (iblk m c 1 t) (iblk m c 2 t) (iblk m c 3 t) (iblk m c 4 t) (iblk m c 5 t) (iblk m c 6 t) (iblk m c 7 t) := by dsimp only [dats]
theorem after_11 (c : Dev nD) (t : Fin cfg0.N) : (dats m 0 c).after 11 t = dvB (grid0.coords t) (iblk m c 0 t) (iblk m c 2 t) (iblk m c 3 t) (iblk m c 6 t) (iblk m c 7 t) := by dsimp only [dats]
theorem after_12 (c : Dev nD) (t : Fin cfg0.N) : (dats m 0 c).after 12 t = codeB (iblk m c 7 t) := by dsimp only [dats]
theorem after_13 (c : Dev nD) (t : Fin cfg0.N) : (dats m 0 c).after 13 t = scaleB (iblk m c 7 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The point before. -/
abbrev prv (t : Fin cfg0.N) : Fin cfg0.N := ⟨t.val - 1, Nat.lt_of_le_of_lt (Nat.sub_le _ _) t.isLt⟩

/-- Within a sequence window 2's block does not move. -/
theorem same_2 (c : Dev nD) (t : Fin cfg0.N) (h : ¬ t.val % 8 = 0) : iblk m c 2 t = iblk m c 2 (prv t) := by
  have hf : (cfg0.win 2).fetch t = false := by
    rw [← Bool.not_eq_true, fetch0_2]; omega
  have e := (dats m 0 c).before_of_pos 2 t (by omega) hf (iblk m c 2 t)
  rw [before_2, if_neg (by exact Bool.false_ne_true)] at e
  refine e.trans ?_
  unfold Dat.left
  rw [live_2]
  exact after_2 m c (prv t)
/-- Within a sequence window 5's block does not move. -/
theorem same_5 (c : Dev nD) (t : Fin cfg0.N) (h : ¬ t.val % 8 = 0) : iblk m c 5 t = iblk m c 5 (prv t) := by
  have hf : (cfg0.win 5).fetch t = false := by
    rw [← Bool.not_eq_true, fetch0_5]; omega
  have e := (dats m 0 c).before_of_pos 5 t (by omega) hf (iblk m c 5 t)
  rw [before_5, if_neg (by exact Bool.false_ne_true)] at e
  refine e.trans ?_
  unfold Dat.left
  rw [live_5]
  exact after_5 m c (prv t)
/-- Within a sequence window 6's block does not move. -/
theorem same_6 (c : Dev nD) (t : Fin cfg0.N) (h : ¬ t.val % 8 = 0) : iblk m c 6 t = iblk m c 6 (prv t) := by
  have hf : (cfg0.win 6).fetch t = false := by
    rw [← Bool.not_eq_true, fetch0_6]; omega
  have e := (dats m 0 c).before_of_pos 6 t (by omega) hf (iblk m c 6 t)
  rw [before_6, if_neg (by exact Bool.false_ne_true)] at e
  refine e.trans ?_
  unfold Dat.left
  rw [live_6]
  exact after_6 m c (prv t)
/-- Within a sequence window 7's block does not move. -/
theorem same_7 (c : Dev nD) (t : Fin cfg0.N) (h : ¬ t.val % 8 = 0) : iblk m c 7 t = iblk m c 7 (prv t) := by
  have hf : (cfg0.win 7).fetch t = false := by
    rw [← Bool.not_eq_true, fetch0_7]; omega
  have e := (dats m 0 c).before_of_pos 7 t (by omega) hf (iblk m c 7 t)
  rw [before_7, if_neg (by exact Bool.false_ne_true)] at e
  refine e.trans ?_
  unfold Dat.left
  rw [live_7]
  exact after_7 m c (prv t)
/-- Within a sequence window 12's buffer holds what its first block stored. -/
theorem held_12 (c : Dev nD) : ∀ (n : ℕ) (t : Fin cfg0.N), t.val = n → ¬ n % 8 = 0 → ∀ d, (dats m 0 c).before 12 t d = codeB (iblk m c 7 t) := by
  intro n
  induction n with
  | zero => intro t _ h; exact absurd (Nat.zero_mod _) h
  | succ n ih =>
    intro t ht h d
    have hfl : ¬ (cfg0.win 12).flush (prv t) = true := by
      rw [flush0_12]; show ¬ (t.val - 1) % 8 = 7; omega
    refine ((dats m 0 c).before_of_pos 12 t (by omega) rfl d).trans ?_
    rw [if_neg hfl, same_7 m c t (by omega)]
    unfold Dat.left
    by_cases h0 : n % 8 = 0
    · rw [live_12 (prv t) (by show (t.val - 1) % 8 = 0; omega)]
      exact after_12 m c (prv t)
    · rw [idle_12 (prv t) (by show ¬ (t.val - 1) % 8 = 0; omega)]
      exact ih (prv t) (by show t.val - 1 = n; omega) h0 d
/-- Within a sequence window 13's buffer holds what its first block stored. -/
theorem held_13 (c : Dev nD) : ∀ (n : ℕ) (t : Fin cfg0.N), t.val = n → ¬ n % 8 = 0 → ∀ d, (dats m 0 c).before 13 t d = scaleB (iblk m c 7 t) := by
  intro n
  induction n with
  | zero => intro t _ h; exact absurd (Nat.zero_mod _) h
  | succ n ih =>
    intro t ht h d
    have hfl : ¬ (cfg0.win 13).flush (prv t) = true := by
      rw [flush0_13]; show ¬ (t.val - 1) % 8 = 7; omega
    refine ((dats m 0 c).before_of_pos 13 t (by omega) rfl d).trans ?_
    rw [if_neg hfl, same_7 m c t (by omega)]
    unfold Dat.left
    by_cases h0 : n % 8 = 0
    · rw [live_13 (prv t) (by show (t.val - 1) % 8 = 0; omega)]
      exact after_13 m c (prv t)
    · rw [idle_13 (prv t) (by show ¬ (t.val - 1) % 8 = 0; omega)]
      exact ih (prv t) (by show t.val - 1 = n; omega) h0 d

/-- The table's entry depends on the head and the sequence alone. -/
theorem entryOf_congr (x : Vec F S72 .f32) {i i' : grid0.Coords} (q0 : i 0 = i' 0) (q1 : i 1 = i' 1) : entryOf x i = entryOf x i' := by
  have e : k0_off1 i = k0_off1 i' := by simp only [k0_off1, q0, q1]
  have gen : ∀ (o o' : Fin 1 → Nat) (h h') (f), o = o' →
      View.ld (Val := Elt F) (e' := .f32) x (Rect.unit (s := S72) o S1.size h) f = View.ld (Val := Elt F) (e' := .f32) x (Rect.unit (s := S72) o' S1.size h') f := by
    rintro o _ h h' f rfl; rfl
  unfold entryOf
  exact gen _ _ _ _ _ e

/-- Within a sequence the pair of a head and a sequence does not change. -/
theorem vs_same (c : Dev nD) (t : Fin cfg0.N) (h : ¬ t.val % 8 = 0) : vsAt m c t = vsAt m c (prv t) := by
  have hf : (cfg0.win 1).fetch t = false := by
    rw [← Bool.not_eq_true, fetch0_1]; omega
  have e := (dats m 0 c).before_of_pos 1 t (by omega) hf (iblk m c 1 t)
  rw [before_1, if_neg (by exact Bool.false_ne_true)] at e
  have e' : iblk m c 1 t = iblk m c 1 (prv t) := by
    refine e.trans ?_
    unfold Dat.left
    rw [live_1]
    exact after_1 m c (prv t)
  unfold vsAt
  rw [e']
  have hN : t.val < 576 := Nat.lt_of_lt_of_eq t.isLt N_0
  have q0 : grid0.coords t 0 = grid0.coords (prv t) 0 := Fin.ext (((Pipeline.Grid.coords_val t 0 (by decide) rfl : (grid0.coords t 0).val = t.val / 96 % 6)).trans ((show t.val / 96 % 6 = (t.val - 1) / 96 % 6 by omega).trans (Pipeline.Grid.coords_val (prv t) 0 (by decide) rfl : (grid0.coords (prv t) 0).val = (t.val - 1) / 96 % 6).symm))
  have q1 : grid0.coords t 1 = grid0.coords (prv t) 1 := Fin.ext (((Pipeline.Grid.coords_val t 1 (by decide) rfl : (grid0.coords t 1).val = t.val / 8 % 12)).trans ((show t.val / 8 % 12 = (t.val - 1) / 8 % 12 by omega).trans (Pipeline.Grid.coords_val (prv t) 1 (by decide) rfl : (grid0.coords (prv t) 1).val = (t.val - 1) / 8 % 12).symm))
  exact entryOf_congr _ q0 q1

/-- A window's buffer at the contents the proof data names, or as found where the point is idle. -/
theorem leaves_of (c : Dev nD) (w : Fin cfg0.W) (t : Fin cfg0.N) (v : (cfg0.win w).block.Idx → Elt F (cfg0.win w).elt)
    (ha : (dats m 0 c).after w t = v ∨ (cfg0.idle w (grid0.coords t) = true ∧ (cfg0.win w).flush t = false))
    (hb : cfg0.idle w (grid0.coords t) = true → (cfg0.win w).flush t = false → ∃ d, (dats m 0 c).before w t d = v) :
    (owns (c : Thread nD τ) ((cfg0.win w).stage (cfg0.slots t w)) fullShare v : sProp 𝕄) ⊢ (dats m 0 c).leavesExact w t := by
  by_cases hi : cfg0.idle w (grid0.coords t) = true ∧ (cfg0.win w).flush t = false
  · rw [Dat.leavesExact_idle (dats m 0 c) w t hi.1 hi.2]
    obtain ⟨d, hd⟩ := hb hi.1 hi.2
    iintro H; iexists d; rw [hd]; iexact H
  · have ha' := ha.resolve_right hi
    have : (dats m 0 c).leavesExact w t = owns (c : Thread nD τ) ((cfg0.win w).stage (cfg0.slots t w)) fullShare ((dats m 0 c).after w t) := by
      unfold Dat.leavesExact
      rcases Bool.eq_false_or_eq_true (cfg0.idle w (grid0.coords t)) with h1 | h1
      · rcases Bool.eq_false_or_eq_true ((cfg0.win w).flush t) with h2 | h2
        · rw [h1, h2]
        · exact absurd ⟨h1, h2⟩ hi
      · rw [h1]
    rw [this, ha']

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- What a run of the body gives back is what the obligation asks. -/
theorem post_of (c : Dev nD) (t : Fin cfg0.N) (a tot : Vec F S256x128 .f32) (d8 d9)
    (hacc : accAt m c t.val t.isLt = accP m c t a) (htot : 8 ≤ t.val % 96 → tot = totAt m c (t.val - 1) (Nat.lt_of_le_of_lt (Nat.sub_le _ _) t.isLt)) :
    iprop(heldAfter c (grid0.coords t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) scM0_0 scM0_1 scM0_2 scM0_3 scM0_4 scM0_5 scM0_6 (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a tot
      ∗ (∃ r, prngReg c r) ∗ (dats m 0 c).owesAt () t.castSucc)
    ⊢ bodyPost m c t := by
  have hN : t.val < 576 := lt_of_lt_of_eq t.isLt (show cfg0.N = 576 from N_0)
  have htt : isLast (grid0.coords t) → totB (grid0.coords t) (entryOf (iblk m c 0 t) (grid0.coords t)) (accP m c t a) tot = totAt m c t.val t.isLt := by
    intro hl
    rw [isLast_iff] at hl
    rw [totAt_last m c t hl, ← hacc]
    by_cases h8 : 8 ≤ t.val % 96
    · rw [htot h8]; rfl
    · have hf : isFst (grid0.coords t) := by rw [isFst_iff]; omega
      unfold totB; rw [if_pos hf, if_pos hf]; rfl
  have hinv : Inv m c (t.val + 1) (s0B (iblk m c 2 t)) (s1B (iblk m c 7 t)) (s2B (iblk m c 6 t)) (s3B (entryOf (iblk m c 1 t) (grid0.coords t)) (iblk m c 7 t)) (s4B (iblk m c 5 t) (iblk m c 7 t)) (accP m c t a)
      (open Classical in if isLast (grid0.coords t) then totB (grid0.coords t) (entryOf (iblk m c 0 t) (grid0.coords t)) (accP m c t a) tot else tot) := by
    intro h
    refine ⟨fun h0 => ?_, fun h8 => ?_⟩
    · have hv : vsAt m c ⟨t.val + 1, h⟩ = vsAt m c t := vs_same m c ⟨t.val + 1, h⟩ h0
      rw [same_2 m c ⟨t.val + 1, h⟩ h0, same_5 m c ⟨t.val + 1, h⟩ h0, same_6 m c ⟨t.val + 1, h⟩ h0, same_7 m c ⟨t.val + 1, h⟩ h0, hv]
      exact ⟨rfl, rfl, rfl, rfl, rfl, hacc.symm⟩
    · show _ = totAt m c t.val t.isLt
      by_cases hl : isLast (grid0.coords t)
      · rw [if_pos hl]; exact htt hl
      · rw [if_neg hl]
        rw [isLast_iff] at hl
        rw [totAt_other m c t hl (by omega)]
        exact htot (by omega)
  have a8 : (dats m 0 c).after 8 t = (open Classical in if isLast (grid0.coords t) ∧ isEnd (grid0.coords t) then k0_pay5 (totB (grid0.coords t) (entryOf (iblk m c 0 t) (grid0.coords t)) (accP m c t a) tot) else (dats m 0 c).before 8 t d8) ∨ (cfg0.idle 8 (grid0.coords t) = true ∧ (cfg0.win 8).flush t = false) := by
    by_cases h : t.val % 96 = 95
    · left
      have hl : isLast (grid0.coords t) := by rw [isLast_iff]; omega
      have he : isEnd (grid0.coords t) := by rw [isEnd_iff]; omega
      rw [after_8, if_pos ⟨hl, he⟩, ← htt hl]
    · right
      exact ⟨idle_8 t h, by rw [← Bool.not_eq_true, flush0_8]; exact h⟩
  have b8 : cfg0.idle 8 (grid0.coords t) = true → (cfg0.win 8).flush t = false → ∃ d, (dats m 0 c).before 8 t d = (open Classical in if isLast (grid0.coords t) ∧ isEnd (grid0.coords t) then k0_pay5 (totB (grid0.coords t) (entryOf (iblk m c 0 t) (grid0.coords t)) (accP m c t a) tot) else (dats m 0 c).before 8 t d8) := by
    intro hi _
    have h : ¬ t.val % 96 = 95 := fun h => by rw [live_8 t h] at hi; exact Bool.false_ne_true hi
    refine ⟨d8, ?_⟩
    rw [if_neg]
    rw [isLast_iff, isEnd_iff]; omega
  have a9 : (dats m 0 c).after 9 t = (open Classical in if isLast (grid0.coords t) then k0_pay2 (entryOf (iblk m c 0 t) (grid0.coords t)) (accP m c t a) else (dats m 0 c).before 9 t d9) ∨ (cfg0.idle 9 (grid0.coords t) = true ∧ (cfg0.win 9).flush t = false) := by
    by_cases h : t.val % 8 = 7
    · left
      have hl : isLast (grid0.coords t) := by rw [isLast_iff]; omega
      rw [after_9, if_pos hl, hacc]; rfl
    · right
      exact ⟨idle_9 t h, by rw [← Bool.not_eq_true, flush0_9]; exact h⟩
  have b9 : cfg0.idle 9 (grid0.coords t) = true → (cfg0.win 9).flush t = false → ∃ d, (dats m 0 c).before 9 t d = (open Classical in if isLast (grid0.coords t) then k0_pay2 (entryOf (iblk m c 0 t) (grid0.coords t)) (accP m c t a) else (dats m 0 c).before 9 t d9) := by
    intro hi _
    have h : ¬ t.val % 8 = 7 := fun h => by rw [live_9 t h] at hi; exact Bool.false_ne_true hi
    refine ⟨d9, ?_⟩
    rw [if_neg]
    rw [isLast_iff]; omega
  unfold heldAfter bodyPost
  rw [show (dats m 0 c).owesAt () t.succ = (dats m 0 c).owesAt () t.castSucc from rfl, show (dats m 0 c).Φ t.succ = PhiS m c (t.val + 1) from rfl]
  unfold PhiS
  iintro ⟨⟨H0, H1, H2, H3, H4, H5, H6, H7, H10, H11, H12, H13, HS0, HS1, HS2, HS3, HS4, H8, H9, HS5, HS6⟩, Hg, Ho⟩
  isplitl [HS0 HS1 HS2 HS3 HS4 HS5 HS6 Hg]
  · iexists _; iexists _; iexists _; iexists _; iexists _; iexists _; iexists _
    isplitr; · ipureintro; exact hinv
    isplitl [HS0 HS1 HS2 HS3 HS4 HS5 HS6]
    · isplitl [HS0]; (· iexact HS0); isplitl [HS1]; (· iexact HS1); isplitl [HS2]; (· iexact HS2); isplitl [HS3]; (· iexact HS3); isplitl [HS4]; (· iexact HS4); isplitl [HS5]; (· iexact HS5); iexact HS6
    iexact Hg
  isplitl [Ho]; · iexact Ho
  isplitl [H0]; · iapply (leaves_of m c 0 t _ (.inl (after_0 m c t)) (fun h _ => absurd h (by rw [live_0]; exact Bool.false_ne_true))); iexact H0
  isplitl [H1]; · iapply (leaves_of m c 1 t _ (.inl (after_1 m c t)) (fun h _ => absurd h (by rw [live_1]; exact Bool.false_ne_true))); iexact H1
  isplitl [H2]; · iapply (leaves_of m c 2 t _ (.inl (after_2 m c t)) (fun h _ => absurd h (by rw [live_2]; exact Bool.false_ne_true))); iexact H2
  isplitl [H3]; · iapply (leaves_of m c 3 t _ (.inl (after_3 m c t)) (fun h _ => absurd h (by rw [live_3]; exact Bool.false_ne_true))); iexact H3
  isplitl [H4]; · iapply (leaves_of m c 4 t _ (.inl (after_4 m c t)) (fun h _ => absurd h (by rw [live_4]; exact Bool.false_ne_true))); iexact H4
  isplitl [H5]; · iapply (leaves_of m c 5 t _ (.inl (after_5 m c t)) (fun h _ => absurd h (by rw [live_5]; exact Bool.false_ne_true))); iexact H5
  isplitl [H6]; · iapply (leaves_of m c 6 t _ (.inl (after_6 m c t)) (fun h _ => absurd h (by rw [live_6]; exact Bool.false_ne_true))); iexact H6
  isplitl [H7]; · iapply (leaves_of m c 7 t _ (.inl (after_7 m c t)) (fun h _ => absurd h (by rw [live_7]; exact Bool.false_ne_true))); iexact H7
  isplitl [H8]; · iapply (leaves_of m c 8 t _ a8 b8); iexact H8
  isplitl [H9]; · iapply (leaves_of m c 9 t _ a9 b9); iexact H9
  isplitl [H10]; · iapply (leaves_of m c 10 t _ (.inl (after_10 m c t)) (fun h _ => absurd h (by rw [live_10]; exact Bool.false_ne_true))); iexact H10
  isplitl [H11]; · iapply (leaves_of m c 11 t _ (.inl (after_11 m c t)) (fun h _ => absurd h (by rw [live_11]; exact Bool.false_ne_true))); iexact H11
  isplitl [H12]; · iapply (leaves_of m c 12 t _ (.inl (after_12 m c t)) (fun h _ => ⟨(dats m 0 c).after 12 t, held_12 m c _ t rfl (fun h0 => by rw [live_12 t h0] at h; exact Bool.false_ne_true h) _⟩)); iexact H12
  iapply (leaves_of m c 13 t _ (.inl (after_13 m c t)) (fun h _ => ⟨(dats m 0 c).after 13 t, held_13 m c _ t rfl (fun h0 => by rw [live_13 t h0] at h; exact Bool.false_ne_true h) _⟩)); iexact H13

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7]
  rw [show (dats m 0 c).Φ t.castSucc = PhiS m c t.val from rfl]
  unfold PhiS
  iintro ⟨⟨%y0, %y1, %y2, %y3, %y4, %y5, %y6, %hinv', ⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hinv := hinv' t.isLt
  by_cases h0 : t.val % 8 = 0
  · iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) _ _ y6 ((first_iff t).mpr h0) (fst_or_nxt t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexact HS6
    iintro HR
    iapply (post_of m c t _ _ _ _ (accAt_first m c t h0) hinv.2)
    isplitl [HR]; · iexact HR
    isplitl [Hg]; · iexact Hg
    iexact Ho
  · have hs := hinv.1 h0
    rw [held_12 m c _ t rfl h0, held_13 m c _ t rfl h0]
    obtain ⟨e0, e1, e2, e3, e4, e5⟩ := hs
    subst e0 e1 e2 e3 e4 e5
    iapply (run_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) _ _ _ y6 (fun h => h0 ((first_iff t).mp h)) (fst_or_nxt t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro HR
    iapply (post_of m c t _ _ _ _ (accAt_later m c t h0) hinv.2)
    isplitl [HR]; · iexact HR
    isplitl [Hg]; · iexact Hg
    iexact Ho

theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, scratch_eq]
  unfold PhiS
  iintro ⟨⟨⟨%y0, HS0⟩, ⟨%y1, HS1⟩, ⟨%y2, HS2⟩, ⟨%y3, HS3⟩, ⟨%y4, HS4⟩, ⟨%y5, HS5⟩, ⟨%y6, HS6⟩⟩, Hg⟩
  iexists y0; iexists y1; iexists y2; iexists y3; iexists y4; iexists y5; iexists y6
  isplitr; · ipureintro; exact fun h => ⟨fun h0 => absurd rfl h0, fun h8 => absurd h8 (by decide)⟩
  isplitl [HS0 HS1 HS2 HS3 HS4 HS5 HS6]
  · isplitl [HS0]; (· iexact HS0); isplitl [HS1]; (· iexact HS1); isplitl [HS2]; (· iexact HS2); isplitl [HS3]; (· iexact HS3); isplitl [HS4]; (· iexact HS4); isplitl [HS5]; (· iexact HS5); iexact HS6
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, scratch_eq]
  unfold PhiS
  iintro ⟨%y0, %y1, %y2, %y3, %y4, %y5, %y6, -, ⟨HS0, HS1, HS2, HS3, HS4, HS5, HS6⟩, Hg⟩
  isplitl [HS0 HS1 HS2 HS3 HS4 HS5 HS6]
  · isplitl [HS0]; (· iexists _; iexact HS0); isplitl [HS1]; (· iexists _; iexact HS1); isplitl [HS2]; (· iexists _; iexact HS2); isplitl [HS3]; (· iexists _; iexact HS3); isplitl [HS4]; (· iexists _; iexact HS4); isplitl [HS5]; (· iexists _; iexact HS5); iexists _; iexact HS6
  iexact Hg

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.Val.Expo.lean ====
/- The power of two a row's scale is: the reference takes it from the logarithm of the row's largest magnitude over
   57344, the kernel finds its biased exponent bit by bit, by comparing with the powers of two themselves. Here the two
   are shown equal at every row whose largest magnitude is a finite bfloat16. -/
module
public import Idealize.ShloMosaic.Lib.Pipeline.ValueKit
public import Idealize.ShloMosaic.Lib.Pointwise
@[expose] public section
set_option maxRecDepth 16384
noncomputable section
namespace Cert.Val
open Idealize.ShloMosaic

/-- The f32 whose biased exponent is `n` and whose other bits are zero. -/
def pw (n : ℕ) : EReal := Ideal.ofBits .f32 (BitVec.ofNat 32 n <<< 23)

theorem pw_bits : ∀ n : Fin 256, ((BitVec.ofNat 32 n.val <<< 23).extractLsb' 31 1 == 1#1) = false ∧
    ((BitVec.ofNat 32 n.val <<< 23).extractLsb' 23 8).toNat = n.val ∧ ((BitVec.ofNat 32 n.val <<< 23).extractLsb' 0 23).toNat = 0 := by
  decide +kernel

theorem ieee_of (b : BitVec 32) (n : ℕ) (h1 : (b.extractLsb' 31 1 == 1#1) = false) (h2 : (b.extractLsb' 23 8).toNat = n)
    (h3 : (b.extractLsb' 0 23).toNat = 0) :
    Ideal.ofBits .f32 b = if n = 255 then ⊤ else if n = 0 then 0 else (((2 : ℝ) ^ ((n : ℤ) - 127) : ℝ) : EReal) := by
  simp only [Ideal.ofBits, Ideal.ieee]
  rw [h1, h2, h3]
  by_cases ha : n = 255
  · simp [ha]
  · by_cases hb : n = 0
    · simp [hb]
    · rw [if_neg ha, if_neg hb, if_neg (by omega), if_neg hb]
      congr 1
      have : ((n : ℤ) - 127) = (23 : ℤ) + ((n : ℤ) - (2 ^ (8 - 1) - 1) - (23 : ℕ)) := by norm_num
      rw [this, zpow_add₀ (by norm_num)]
      norm_num

theorem pw_val (n : ℕ) (h : n ≤ 255) :
    pw n = if n = 255 then ⊤ else if n = 0 then 0 else (((2 : ℝ) ^ ((n : ℤ) - 127) : ℝ) : EReal) :=
  ieee_of _ n (pw_bits ⟨n, by omega⟩).1 (pw_bits ⟨n, by omega⟩).2.1 (pw_bits ⟨n, by omega⟩).2.2

theorem pw_eq (n : ℕ) (h0 : 1 ≤ n) (h : n ≤ 254) : pw n = (((2 : ℝ) ^ ((n : ℤ) - 127) : ℝ) : EReal) := by
  rw [pw_val n (by omega), if_neg (by omega), if_neg (by omega)]

theorem pw_zero : pw 0 = 0 := by
  rw [pw_val 0 (by omega), if_neg (by omega), if_pos rfl]

theorem pw_top : pw 255 = ⊤ := by
  rw [pw_val 255 (by omega), if_pos rfl]

/-- The bound a biased exponent stands for: past the largest, no bound. -/
def bd (n : ℕ) : EReal := if n ≤ 255 then pw n else ⊤

/-- One bit of the search. -/
def fs (y : EReal) (f b : BitVec 32) : BitVec 32 :=
  if y < Ideal.ofBits .f32 (IntOp.shli .vector (IntOp.addi f b) 23#32) then f else IntOp.addi f b

theorem shl (n : ℕ) : Ideal.ofBits .f32 (IntOp.shli .vector (BitVec.ofNat 32 n) 23#32) = pw n := by
  unfold IntOp.shli pw; rfl

theorem fs_step (y : EReal) (n b : ℕ) (hb : n + b ≤ 255) (h0 : bd n ≤ y) (h1 : y < bd (n + 2 * b)) :
    ∃ n', fs y (BitVec.ofNat 32 n) (BitVec.ofNat 32 b) = BitVec.ofNat 32 n' ∧ n' ≤ n + b ∧ bd n' ≤ y ∧ y < bd (n' + b) := by
  have e : IntOp.addi (BitVec.ofNat 32 n) (BitVec.ofNat 32 b) = BitVec.ofNat 32 (n + b) := by
    unfold IntOp.addi; rw [BitVec.ofNat_add]
  unfold fs
  rw [e, shl]
  have hw : bd (n + b) = pw (n + b) := if_pos hb
  by_cases h : y < pw (n + b)
  · rw [if_pos h]; exact ⟨n, rfl, by omega, h0, hw ▸ h⟩
  · rw [if_neg h]
    refine ⟨n + b, rfl, le_refl _, hw ▸ not_lt.mp h, ?_⟩
    rw [show n + b + b = n + 2 * b by ring]; exact h1

/-- The biased exponent the kernel finds. -/
def field (y : EReal) : BitVec 32 :=
  fs y (fs y (fs y (fs y (fs y (fs y (fs y (fs y 0#32 128#32) 64#32) 32#32) 16#32) 8#32) 4#32) 2#32) 1#32

theorem field_spec (y : EReal) (h0 : 0 ≤ y) (h1 : y < ⊤) :
    ∃ n, field y = BitVec.ofNat 32 n ∧ n ≤ 255 ∧ bd n ≤ y ∧ y < bd (n + 1) := by
  obtain ⟨n1, e1, l1, a1, b1⟩ := fs_step y 0 128 (by omega) (by simpa [bd, pw_zero] using h0) (by simpa [bd] using h1)
  obtain ⟨n2, e2, l2, a2, b2⟩ := fs_step y n1 64 (by omega) a1 b1
  obtain ⟨n3, e3, l3, a3, b3⟩ := fs_step y n2 32 (by omega) a2 b2
  obtain ⟨n4, e4, l4, a4, b4⟩ := fs_step y n3 16 (by omega) a3 b3
  obtain ⟨n5, e5, l5, a5, b5⟩ := fs_step y n4 8 (by omega) a4 b4
  obtain ⟨n6, e6, l6, a6, b6⟩ := fs_step y n5 4 (by omega) a5 b5
  obtain ⟨n7, e7, l7, a7, b7⟩ := fs_step y n6 2 (by omega) a6 b6
  obtain ⟨n8, e8, l8, a8, b8⟩ := fs_step y n7 1 (by omega) a7 b7
  refine ⟨n8, ?_, by omega, a8, b8⟩
  unfold field
  rw [e1, e2, e3, e4, e5, e6, e7, e8]

/-- The exponent the kernel takes: none for a zero row or one whose scale would be subnormal. -/
def kexp (a y : EReal) : BitVec 32 := if a = 0 ∨ field y = 0#32 then 0#32 else IntOp.subi (field y) 126#32

/-- The exponent the reference takes. -/
def rexp (y : EReal) : EReal :=
  if y < Ideal.ofBits .f32 0x00800000#32 then Ideal.ofBits .f32 0x00000000#32
  else Ideal.liftRound Int.floor (Ideal.log y * (((Real.log 2)⁻¹ : ℝ) : EReal)) + Ideal.ofBits .f32 0x3F800000#32

theorem min_norm : Ideal.ofBits .f32 0x00800000#32 = pw 1 := rfl

theorem exp2_int (z : ℤ) : Ideal.exp2 (((z : ℝ)) : EReal) = (((2 : ℝ) ^ z : ℝ) : EReal) := by
  rw [Ideal.exp2_coe]; congr 1; exact Real.rpow_intCast 2 z

/-- At a row that is not flushed: both exponents are `n - 126`. -/
theorem rexp_eq (y : ℝ) (n : ℕ) (h0 : 1 ≤ n) (hl : (2 : ℝ) ^ ((n : ℤ) - 127) ≤ y) (hu : y < (2 : ℝ) ^ ((n : ℤ) + 1 - 127)) :
    rexp (y : EReal) = ((((n : ℤ) - 126 : ℤ) : ℝ) : EReal) := by
  have hp : (0 : ℝ) < y := lt_of_lt_of_le (by positivity) hl
  have h2 : (0 : ℝ) < Real.log 2 := Real.log_pos (by norm_num)
  unfold rexp
  rw [if_neg, Ideal.log_coe, if_neg (not_le.mpr hp), ← EReal.coe_mul, Ideal.liftRound_coe, Ideal.ofBits_one_f32]
  · have hf : ⌊Real.log y * (Real.log 2)⁻¹⌋ = (n : ℤ) - 127 := by
      rw [Int.floor_eq_iff, ← div_eq_mul_inv]
      constructor
      · rw [le_div_iff₀ h2, ← Real.log_zpow]
        exact Real.log_le_log (by positivity) hl
      · rw [div_lt_iff₀ h2]
        have := Real.log_lt_log hp hu
        rw [Real.log_zpow] at this
        refine lt_of_lt_of_eq this ?_
        push_cast; ring
    rw [hf, ← EReal.coe_one, ← EReal.coe_add]
    congr 1
    push_cast; ring
  · rw [min_norm, pw_eq 1 (by omega) (by omega), not_lt, EReal.coe_le_coe_iff]
    refine le_trans (zpow_le_zpow_right₀ (by norm_num) ?_) hl
    push_cast; omega

/-- The two scales and their inverses agree at every value below 2^126, the row's largest magnitude `a` being zero only
    where the value is. -/
theorem scale_eq (a y : EReal) (h0 : 0 ≤ y) (h1 : y < pw 253) (ha : a = 0 → y = 0) :
    Ideal.ofBits .f32 (IntOp.shli .vector (IntOp.addi (kexp a y) 127#32) 23#32) = Ideal.exp2 (rexp y) ∧
    Ideal.ofBits .f32 (IntOp.shli .vector (IntOp.addi (IntOp.subi 0#32 (kexp a y)) 127#32) 23#32) =
      Ideal.exp2 (Ideal.ofBits .f32 0x00000000#32 - rexp y) := by
  have ht : y < ⊤ := lt_of_lt_of_le h1 le_top
  obtain ⟨n, e, hn, hl, hu⟩ := field_spec y h0 ht
  have hbd : ∀ k, 1 ≤ k → k ≤ 254 → bd k = (((2 : ℝ) ^ ((k : ℤ) - 127) : ℝ) : EReal) := fun k h h' => by
    rw [bd, if_pos (by omega), pw_eq k h h']
  lift y to ℝ using ⟨ht.ne, ne_of_gt (lt_of_lt_of_le EReal.bot_lt_zero h0)⟩
  rcases Nat.eq_zero_or_pos n with rfl | hpos
  · have hk : kexp a y = 0#32 := if_pos (Or.inr (by rw [e]))
    have hr : rexp y = 0 := by
      unfold rexp; rw [if_pos]
      · exact Ideal.ofBits_zero_f32
      · rw [min_norm]; simpa [bd] using hu
    rw [hk, hr]
    have h127 : pw 127 = 1 := by rw [pw_eq 127 (by omega) (by omega)]; norm_num
    have hz : Ideal.exp2 (0 : EReal) = 1 := by
      have := exp2_int 0
      simpa using this
    refine ⟨?_, ?_⟩
    · rw [hz]; exact (shl 127).trans h127
    · rw [Ideal.ofBits_zero_f32, sub_zero, hz]; exact (shl 127).trans h127
  · have hn' : n ≤ 252 := by
      by_contra hc
      have hc : 253 ≤ n := by omega
      have : bd n < pw 253 := lt_of_le_of_lt hl h1
      rcases Nat.lt_or_ge n 255 with h | h
      · rw [hbd n hpos (by omega), pw_eq 253 (by omega) (by omega), EReal.coe_lt_coe_iff] at this
        exact absurd this (not_lt.mpr (zpow_le_zpow_right₀ (by norm_num) (by omega)))
      · obtain rfl : n = 255 := by omega
        rw [bd, if_pos (by omega), pw_top] at this
        exact absurd this (not_lt.mpr le_top)
    rw [hbd n hpos (by omega), EReal.coe_le_coe_iff] at hl
    rw [hbd (n + 1) (by omega) (by omega), EReal.coe_lt_coe_iff] at hu
    have hr := rexp_eq y n hpos hl (by push_cast at hu; exact hu)
    have hy : (y : EReal) ≠ 0 := by
      have : (0 : ℝ) < y := lt_of_lt_of_le (by positivity) hl
      exact_mod_cast this.ne'
    have hf : field y ≠ 0#32 := by
      rw [e]; intro hc
      have := congrArg BitVec.toNat hc
      simp at this; omega
    have hk : kexp a y = IntOp.subi (BitVec.ofNat 32 n) 126#32 := by
      rw [kexp, if_neg (by rintro (h | h); exacts [hy (ha h), hf h]), e]
    rw [hk, hr]
    refine ⟨?_, ?_⟩
    · have : IntOp.addi (IntOp.subi (BitVec.ofNat 32 n) 126#32) 127#32 = BitVec.ofNat 32 (n + 1) := by
        unfold IntOp.addi IntOp.subi
        apply BitVec.eq_of_toNat_eq
        simp; omega
      rw [this, shl, pw_eq (n + 1) (by omega) (by omega), exp2_int]
      congr 2; push_cast; ring
    · have : IntOp.addi (IntOp.subi 0#32 (IntOp.subi (BitVec.ofNat 32 n) 126#32)) 127#32 = BitVec.ofNat 32 (253 - n) := by
        unfold IntOp.addi IntOp.subi
        apply BitVec.eq_of_toNat_eq
        simp; omega
      rw [this, shl, pw_eq (253 - n) (by omega) (by omega), Ideal.ofBits_zero_f32, zero_sub, ← EReal.coe_neg,
        show (-((((n : ℤ) - 126 : ℤ)) : ℝ)) = ((126 - (n : ℤ) : ℤ) : ℝ) by push_cast; ring, exp2_int]
      congr 2; omega

end Cert.Val
end
-- ==== Proof.Val.Spec.lean ====
/- The backward pass of latent cross attention over quantised keys and values, element by element over the arguments:
   what both programs are shown to compute. -/
module
public import proofs.«01_k».proof.Proof.Val.Expo
public import proofs.«01_k».proof.KernelIdeal
@[expose] public section
set_option maxRecDepth 16384
noncomputable section
namespace Cert.Val
open Idealize.ShloMosaic Cert.KernelIdeal

/-- The arguments: the queries, the keys' codes and scales, the values' codes and scales, the output, the rows' log sums
    and the output's gradient. -/
structure Args where
  /-- the queries -/
  q : Vec Ideal S256x6x128 .bf16
  /-- the keys' codes -/
  k : Vec Ideal S12x16384x6x128 .fp8e4m3
  /-- the keys' scales -/
  ks : Vec Ideal S12x6 .f32
  /-- the values' codes -/
  v : Vec Ideal S12x16384x6x128 .fp8e4m3
  /-- the values' scales -/
  vs : Vec Ideal S12x6 .f32
  /-- the output -/
  o : Vec Ideal S12x256x6x128 .bf16
  /-- the rows' log sums -/
  lse : Vec Ideal S12x6x256 .f32
  /-- the output's gradient -/
  g : Vec Ideal S12x256x6x128 .bf16

variable (a : Args)

/-- A row's largest magnitude. -/
def Args.amax (b : Fin 12) (l : Fin 256) (h : Fin 6) : EReal :=
  Finset.fold max (Ideal.ofBits FTy.f32 0xFF800000#32) (fun d : Fin 128 => FloatOps.absf (F := Ideal) (φ := .f32) (a.g (ix4 b l h d))) Finset.univ
/-- A row's largest magnitude over 57344. -/
def Args.y (b : Fin 12) (l : Fin 256) (h : Fin 6) : EReal := a.amax b l h * Ideal.ofBits FTy.f32 0x37924925#32
/-- A row's scale. -/
def Args.dos (b : Fin 12) (l : Fin 256) (h : Fin 6) : EReal := Ideal.exp2 (rexp (a.y b l h))
/-- A row's codes. -/
def Args.cod (b : Fin 12) (l : Fin 256) (h : Fin 6) (d : Fin 128) : EReal :=
  min (Ideal.ofBits FTy.f32 0x47600000#32) (max (Ideal.ofBits FTy.f32 0xC7600000#32)
    (a.g (ix4 b l h d) * Ideal.exp2 (Ideal.ofBits .f32 0x00000000#32 - rexp (a.y b l h))))
/-- The scores' factor: one over the root of the width, by the keys' scale. -/
def Args.sks (b : Fin 12) (h : Fin 6) : EReal := Ideal.ofBits FTy.f32 0x3DB504F3#32 * a.ks (ix2 b h)
/-- The attention weights. -/
def Args.p (b : Fin 12) (h : Fin 6) (l : Fin 256) (t : Fin 16384) : EReal :=
  Ideal.exp (a.sks b h * (∑ d : Fin 128, a.q (ix3 l h d) * a.k (ix4 b t h d)) - a.lse (ix3 b h l))
/-- A row's sum of the output's gradient by the output. -/
def Args.delta (b : Fin 12) (h : Fin 6) (l : Fin 256) : EReal :=
  ∑ d : Fin 128, a.cod b l h d * a.dos b l h * a.o (ix4 b l h d)
/-- The gradient of the scores. -/
def Args.ds (b : Fin 12) (h : Fin 6) (l : Fin 256) (t : Fin 16384) : EReal :=
  a.p b h l t * (a.dos b l h * a.vs (ix2 b h) * (∑ d : Fin 128, a.cod b l h d * a.v (ix4 b t h d)) - a.delta b h l)
/-- The gradient of the values. -/
def Args.dv (b : Fin 12) (t : Fin 16384) (h : Fin 6) (d : Fin 128) : EReal :=
  ∑ l : Fin 256, a.cod b l h d * a.dos b l h * a.p b h l t
/-- The gradient of the keys. -/
def Args.dk (b : Fin 12) (t : Fin 16384) (h : Fin 6) (d : Fin 128) : EReal :=
  Ideal.ofBits FTy.f32 0x3DB504F3#32 * ∑ l : Fin 256, a.q (ix3 l h d) * a.ds b h l t
/-- A sequence's gradient of the queries. -/
def Args.dqs (b : Fin 12) (l : Fin 256) (h : Fin 6) (d : Fin 128) : EReal :=
  a.sks b h * ∑ t : Fin 16384, a.ds b h l t * a.k (ix4 b t h d)
/-- The gradient of the queries. -/
def Args.dq (l : Fin 256) (h : Fin 6) (d : Fin 128) : EReal := ∑ b : Fin 12, a.dqs b l h d

/-- Every entry of the output's gradient is a finite bfloat16. -/
def Args.Finite (a : Args) : Prop := ∀ i, FloatOps.absf (F := Ideal) (φ := .f32) (a.g i) ≤ Ideal.ofBits .f32 0x7F7F0000#32

theorem ofBits_inv57344 : Ideal.ofBits .f32 0x37924925#32 = (((9586981 : ℝ) * (2 : ℝ) ^ (-39 : ℤ) : ℝ) : EReal) := by
  simp [Ideal.ofBits, Ideal.ieee, -EReal.coe_mul]
theorem ofBits_bf16max : Ideal.ofBits .f32 0x7F7F0000#32 = (((255 : ℝ) * (2 : ℝ) ^ (120 : ℤ) : ℝ) : EReal) := by
  simp [Ideal.ofBits, Ideal.ieee, -EReal.coe_mul]; norm_num
theorem ofBits_ninf : Ideal.ofBits .f32 0xFF800000#32 = ⊥ := by
  simp [Ideal.ofBits, Ideal.ieee]

theorem absf_nonneg (x : EReal) : 0 ≤ FloatOps.absf (F := Ideal) (φ := .f32) x := by
  show 0 ≤ max x (-x)
  rcases le_total 0 x with h | h
  · exact le_max_of_le_left h
  · exact le_max_of_le_right (EReal.neg_nonneg.mpr h)

theorem Args.amax_nonneg (b l h) : 0 ≤ a.amax b l h := by
  unfold Args.amax
  rw [Finset.le_fold_max]
  exact Or.inr ⟨0, Finset.mem_univ _, absf_nonneg _⟩

theorem Args.amax_le (hf : a.Finite) (b l h) : a.amax b l h ≤ Ideal.ofBits .f32 0x7F7F0000#32 := by
  unfold Args.amax
  rw [Finset.fold_max_le]
  exact ⟨by rw [ofBits_ninf]; exact bot_le, fun d _ => hf _⟩

theorem Args.y_range (hf : a.Finite) (b l h) : 0 ≤ a.y b l h ∧ a.y b l h < pw 253 ∧ (a.amax b l h = 0 → a.y b l h = 0) := by
  have h0 := a.amax_nonneg b l h
  have h1 := a.amax_le hf b l h
  unfold Args.y
  generalize a.amax b l h = x at *
  rw [ofBits_bf16max] at h1
  lift x to ℝ using ⟨ne_of_lt (lt_of_le_of_lt h1 (EReal.coe_lt_top _)), ne_of_gt (lt_of_lt_of_le EReal.bot_lt_zero h0)⟩
  rw [ofBits_inv57344, pw_eq 253 (by omega) (by omega), ← EReal.coe_mul]
  rw [EReal.coe_le_coe_iff] at h1
  have h0 : 0 ≤ x := by exact_mod_cast h0
  refine ⟨by exact_mod_cast (by positivity), ?_, fun h => by simp [EReal.coe_eq_zero.mp h]⟩
  rw [EReal.coe_lt_coe_iff]
  refine lt_of_le_of_lt (mul_le_mul_of_nonneg_right h1 (by positivity)) ?_
  norm_num

/-- The kernel's scale and inverse scale are the reference's. -/
theorem Args.scale (hf : a.Finite) (b l h) :
    Ideal.ofBits .f32 (IntOp.shli .vector (IntOp.addi (kexp (a.amax b l h) (a.y b l h)) 127#32) 23#32) = a.dos b l h ∧
    Ideal.ofBits .f32 (IntOp.shli .vector (IntOp.addi (IntOp.subi 0#32 (kexp (a.amax b l h) (a.y b l h))) 127#32) 23#32) =
      Ideal.exp2 (Ideal.ofBits .f32 0x00000000#32 - rexp (a.y b l h)) :=
  scale_eq _ _ (a.y_range hf b l h).1 (a.y_range hf b l h).2.1 (a.y_range hf b l h).2.2

/-- A power of two with both its terms in units of log 2 is the exponential. -/
theorem exp2_units (x c l L : EReal) (hL : L = (((Real.log 2)⁻¹ : ℝ) : EReal)) :
    Ideal.exp2 (x * (c * L) - l * L) = Ideal.exp (c * x - l) := by
  have h2 : (0 : ℝ) < Real.log 2 := Real.log_pos (by norm_num)
  have hi : (0 : ℝ) < (Real.log 2)⁻¹ := inv_pos.mpr h2
  subst hL
  rw [← mul_assoc, mul_comm x c]
  generalize c * x = w
  induction w using EReal.rec with
  | bot => simp [EReal.bot_mul_coe_of_pos hi, EReal.bot_sub]
  | top =>
    induction l using EReal.rec with
    | bot => simp [EReal.top_mul_coe_of_pos hi, EReal.bot_mul_coe_of_pos hi]
    | top => simp [EReal.top_mul_coe_of_pos hi, EReal.bot_mul_coe_of_pos hi, EReal.sub_top]
    | coe r => rw [EReal.top_mul_coe_of_pos hi, ← EReal.coe_mul, EReal.top_sub_coe, EReal.top_sub_coe]; rfl
  | coe w =>
    induction l using EReal.rec with
    | bot => rw [EReal.bot_mul_coe_of_pos hi, ← EReal.coe_mul, EReal.coe_sub_bot, EReal.coe_sub_bot]; rfl
    | top => rw [EReal.top_mul_coe_of_pos hi, EReal.sub_top, EReal.sub_top]; rfl
    | coe r =>
      rw [← EReal.coe_mul, ← EReal.coe_mul, ← EReal.coe_sub, ← EReal.coe_sub, Ideal.exp2_coe, Ideal.exp_coe]
      congr 1
      show (2 : ℝ) ^ (_ : ℝ) = _
      rw [Real.rpow_def_of_pos (by norm_num)]
      congr 1
      field_simp

end Cert.Val
end
-- ==== Proof.Ker.Block.lean ====
/- One grid point's blocks, element by element: the rows' codes and scales, the tables made from them, and a chunk's rows of
   the gradients, over the arguments. -/
module
public import proofs.«01_k».proof.Proof.KI.Vals
public import proofs.«01_k».proof.Proof.Val.Spec
@[expose] public section
set_option maxRecDepth 16384
noncomputable section
open Idealize.ShloMosaic Idealize.ShloMosaic.TcCoe Idealize.SL.Sem
namespace Cert.KernelIdeal.Ker
open Cert.KernelIdeal Cert.KernelIdeal.Gen Cert.Val

/-- A block row's largest magnitude. -/
def bA (x7 : Vec Ideal S1x1x256x128 .bf16) (i : Fin 256) : EReal :=
  Finset.fold max (Ideal.ofBits FTy.f32 0xFF800000#32) (fun d : Fin 128 => FloatOps.absf (F := Ideal) (φ := .f32) (x7 (ix4 0 0 i d))) Finset.univ
/-- It over 57344. -/
def bY (x7 : Vec Ideal S1x1x256x128 .bf16) (i : Fin 256) : EReal := bA x7 i * Ideal.ofBits FTy.f32 0x37924925#32

variable (x7 : Vec Ideal S1x1x256x128 .bf16) (i : Fin 256)
theorem pay7_at : k0_pay7 x7 (ix2 i 0) = bA x7 i := by
  pointwise [k0_pay7, k0_pay6, bA]
theorem pay8_at : k0_pay8 x7 (ix2 i 0) = bY x7 i := by
  pointwise [k0_pay8, pay7_at, bY]

/-- The search's first three bits. -/
theorem pay9_at : k0_pay9 x7 (ix2 i 0) = fs (bY x7 i) (fs (bY x7 i) (fs (bY x7 i) 0#32 128#32) 64#32) 32#32 := by
  pointwise [k0_pay9, pay8_at]
  rfl
/-- One bit of the search as the kernel states it. -/
def fsel (y : EReal) (f b : BitVec 32) : BitVec 32 :=
  Scalar.select (Ideal.cmp .olt y (Ideal.ofBits .f32 (IntOp.shli .vector (IntOp.addi f b) 23#32))) f (IntOp.addi f b)
theorem fsel_eq (y : EReal) (f b : BitVec 32) : fsel y f b = fs y f b := by
  unfold fsel fs Scalar.select Ideal.cmp
  by_cases h : y < Ideal.ofBits .f32 (IntOp.shli .vector (IntOp.addi f b) 23#32)
  · simp [h]
  · simp [h]
theorem pay11_at (y : FVec Ideal S256x1 .f32) (f : IVec S256x1 32) (c : IVec S256x1 1) (j : S256x1.Idx) :
    k0_pay11 (F := Ideal) y f c j = fsel (y j) (fsel (y j) (fsel (y j) (fsel (y j) (Scalar.select (c j) (f j) (IntOp.addi (f j) 16#32)) 8#32) 4#32) 2#32) 1#32 := rfl
theorem pay10_at : k0_pay10 x7 (ix2 i 0) = Ideal.cmp .olt (bY x7 i) (Ideal.ofBits .f32 (IntOp.shli .vector (IntOp.addi (k0_pay9 x7 (ix2 i 0)) 16#32) 23#32)) := by
  rw [← pay8_at]; rfl
theorem expo_at : expoB (F := Ideal) x7 (ix2 i 0) = field (bY x7 i) := by
  unfold expoB
  rw [pay11_at, pay10_at, pay9_at, pay8_at]
  unfold field
  simp only [← fsel_eq]
  rfl

theorem pay13_at : k0_pay13 (expoB (F := Ideal) x7) (zeroB x7) 126#32 (ix2 i 0) = kexp (bA x7 i) (bY x7 i) := by
  have hz : zeroB (F := Ideal) x7 (ix2 i 0) = IntOp.ori (BitVec.ofBool (decide (bA x7 i = 0))) (IntOp.cmpi CmpIPredicate.eq (field (bY x7 i)) 0#32) := by
    rw [← expo_at]; pointwise [zeroB, k0_pay12, pay8_at, pay7_at]; rfl
  have : k0_pay13 (expoB (F := Ideal) x7) (zeroB x7) 126#32 (ix2 i 0) = Scalar.select (zeroB (F := Ideal) x7 (ix2 i 0)) 0#32 (IntOp.subi (expoB (F := Ideal) x7 (ix2 i 0)) 126#32) := rfl
  rw [this, hz, expo_at]
  unfold kexp Scalar.select IntOp.ori IntOp.cmpi
  by_cases h2 : field (bY x7 i) = 0#32
  · by_cases h1 : bA x7 i = 0 <;> simp [h1, h2]
  · have h3 : (field (bY x7 i) == 0#32) = false := by simpa using h2
    by_cases h1 : bA x7 i = 0 <;> simp [h1, h2, h3]

theorem sc_bits : scB (F := Ideal) x7 (ix2 i 0) =
    Ideal.ofBits .f32 (IntOp.shli .vector (IntOp.addi (kexp (bA x7 i) (bY x7 i)) 127#32) 23#32) := by
  rw [← pay13_at]; rfl
theorem cd_bits (j : Fin 128) : cdB (F := Ideal) x7 (ix2 i j) =
    min (Ideal.ofBits FTy.f32 0x47600000#32) (max (Ideal.ofBits FTy.f32 0xC7600000#32) (x7 (ix4 0 0 i j) *
      Ideal.ofBits .f32 (IntOp.shli .vector (IntOp.addi (IntOp.subi 0#32 (kexp (bA x7 i) (bY x7 i))) 127#32) 23#32))) := by
  pointwise [cdB, k0_pay15, pay13_at, k0_pay6]

section
variable (a : Args) (hf : a.Finite) (b : Fin 12) (h : Fin 6)
  (x2 : Vec Ideal S1x256x128 .bf16) (hq : ∀ i d, x2 (ix3 0 i d) = a.q (ix3 i h d))
  (x5 : Vec Ideal S1x1x256x128 .bf16) (ho : ∀ i d, x5 (ix4 0 0 i d) = a.o (ix4 b i h d))
  (x6 : Vec Ideal S1x1x1x256 .f32) (hl : ∀ i, x6 (ix4 0 0 0 i) = a.lse (ix3 b h i))
  (hg : ∀ i d, x7 (ix4 0 0 i d) = a.g (ix4 b i h d))
  (k v : Vec Ideal S1x1x256x128 .fp8e4m3) (T : Fin 256 → Fin 16384)
  (hk : ∀ j d, k (ix4 0 0 j d) = a.k (ix4 b (T j) h d)) (hv : ∀ j d, v (ix4 0 0 j d) = a.v (ix4 b (T j) h d))

include hg
theorem bA_eq : bA x7 i = a.amax b i h := by
  unfold bA Args.amax; simp only [hg]
theorem bY_eq : bY x7 i = a.y b i h := by
  unfold bY Args.y; rw [bA_eq x7 i a b h hg]
include hf
theorem sc_at : scB (F := Ideal) x7 (ix2 i 0) = a.dos b i h := by
  rw [sc_bits, bA_eq x7 i a b h hg, bY_eq x7 i a b h hg]; exact (a.scale hf b i h).1
theorem cd_at (j : Fin 128) : cdB (F := Ideal) x7 (ix2 i j) = a.cod b i h j := by
  rw [cd_bits, bA_eq x7 i a b h hg, bY_eq x7 i a b h hg, (a.scale hf b i h).2, hg]; rfl
theorem code_at (j : Fin 128) : codeB (F := Ideal) x7 (ix4 0 0 i j) = a.cod b i h j := by
  rw [← cd_at x7 i a hf b h hg]
  pointwise [codeB, k0_pay16, cdB]
theorem scale_at : scaleB (F := Ideal) x7 (ix4 0 0 0 i) = a.dos b i h := by
  rw [← sc_at x7 i a hf b h hg]
  pointwise [scaleB, k0_pay17, scB]
theorem s1_at (d : Fin 128) : s1B (F := Ideal) x7 (ix2 d i) = a.cod b i h d * a.dos b i h := by
  rw [← sc_at x7 i a hf b h hg, ← cd_at x7 i a hf b h hg]
  pointwise [s1B, k0_pay19]
theorem s3_at (vs : Ideal .f32) (d : Fin 128) : s3B (F := Ideal) vs x7 (ix2 i d) = a.dos b i h * vs := by
  rw [← sc_at x7 i a hf b h hg]
  pointwise [s3B, k0_pay22]
include ho
theorem s4_at (d : Fin 128) : s4B (F := Ideal) x5 x7 (ix2 i d) = a.delta b h i := by
  have h1 : ∀ e, k0_pay15 (F := Ideal) (k0_pay6 x7) (expoB x7) (zeroB x7) 126#32 (ix2 i e) = a.cod b i h e := cd_at x7 i a hf b h hg
  have h2 : k0_pay14 (F := Ideal) (expoB x7) (zeroB x7) 126#32 (ix2 i 0) = a.dos b i h := sc_at x7 i a hf b h hg
  pointwise [s4B, k0_pay24, k0_pay23, k0_pay18]
  unfold Args.delta
  simp only [h1, h2, ho]
omit hf hg ho
include hq in
theorem s0_at (d : Fin 128) : s0B (F := Ideal) x2 (ix2 d i) = a.q (ix3 i h d) := by
  rw [← hq]; pointwise [s0B, k0_pay20]
include hl in
theorem s2_at (d : Fin 128) : s2B (F := Ideal) x6 (ix2 i d) = a.lse (ix3 b h i) * (((Real.log 2)⁻¹ : ℝ) : EReal) := by
  rw [← hl]; pointwise [s2B, k0_pay21]; rfl

theorem fsum_congr {n : ℕ} {f g : Fin n → EReal} (h : ∀ i, f i = g i) : ∑ i, f i = ∑ i, g i := Finset.sum_congr rfl fun i _ => h i

section
variable (l c2 dl : Vec Ideal S256x128 .f32) (ks vs : Ideal .f32) (hks : ks = a.ks (ix2 b h)) (hvs : vs = a.vs (ix2 b h))
  (cd : Vec Ideal S1x1x256x128 .fp8e5m2)
  (hll : ∀ i d, l (ix2 i d) = a.lse (ix3 b h i) * (((Real.log 2)⁻¹ : ℝ) : EReal))
  (hcd : ∀ i d, cd (ix4 0 0 i d) = a.cod b i h d) (hc2 : ∀ i d, c2 (ix2 i d) = a.dos b i h * a.vs (ix2 b h)) (hdl : ∀ i d, dl (ix2 i d) = a.delta b h i)
include hq hk hks hll
/-- The attention weights of a chunk. -/
theorem p_at (j : Fin 256) : k0_pay39 (F := Ideal) (k0_pay26 ks) (k0_pay27 x2) (k0_pay37 k) l (ix2 i j) = a.p b h i (T j) := by
  pointwise [k0_pay39, k0_pay26, k0_pay27, k0_pay37]
  simp only [hll, dite_eq_ite, ite_self, hq, hk, hks]
  exact exp2_units _ _ _ _ rfl
include hv hcd hc2 hdl
theorem ds_at (j : Fin 256) : dsC (F := Ideal) ks x2 cd l c2 dl k v (ix2 i j) = a.ds b h i (T j) := by
  have hp := p_at i a b h x2 hq k T hk l ks hks hll j
  pointwise [dsC, k0_pay40, k0_pay28, k0_pay38]
  simp only [hp, hcd, hc2, hdl, hv, dite_eq_ite, ite_self]
  unfold Args.ds
  rw [mul_comm (a.dos b i h * _)]
theorem dk_at (qt : Vec Ideal S128x256 .bf16) (hqt : ∀ d i, qt (ix2 d i) = a.q (ix3 i h d)) (j : Fin 256) (d : Fin 128) :
    dkC (F := Ideal) ks x2 qt cd l c2 dl k v (ix4 0 0 j d) = a.dk b (T j) h d := by
  have hds := fun i => ds_at i a b h x2 hq k v T hk hv l c2 dl ks hks cd hll hcd hc2 hdl j
  unfold dsC at hds
  pointwise [dkC, k0_pay42]
  simp only [hds, hqt]
  rfl
theorem dq_at (j : Fin 128) : dqC (F := Ideal) ks x2 cd l c2 dl k v (ix2 i j) = ∑ t : Fin 256, a.ds b h i (T t) * a.k (ix4 b (T t) h j) := by
  have hds := fun j => ds_at i a b h x2 hq k v T hk hv l c2 dl ks hks cd hll hcd hc2 hdl j
  pointwise [dqC, k0_pay37]
  simp only [hds, hk]
omit hv hcd hc2 hdl
theorem dv_at (do_ : Vec Ideal S128x256 .bf16) (hdo : ∀ d i, do_ (ix2 d i) = a.cod b i h d * a.dos b i h) (j : Fin 256) (d : Fin 128) :
    dvC (F := Ideal) ks x2 do_ l k (ix4 0 0 j d) = a.dv b (T j) h d := by
  have hp := fun i => p_at i a b h x2 hq k T hk l ks hks hll j
  pointwise [dvC, k0_pay41]
  simp only [hp, hdo]
  rfl
end
end
end Cert.KernelIdeal.Ker
end
-- ==== Proof.Ker.Reads.lean ====
/- The blocks a grid point reads, element by element over the arguments as launched. -/
module
public import proofs.«01_k».proof.Proof.KI.Frame
public import proofs.«01_k».proof.Proof.Ker.Block
public import Idealize.ShloMosaic.Lib.Claim
@[expose] public section
set_option maxRecDepth 16384
noncomputable section
open Idealize.ShloMosaic Idealize.ShloMosaic.TcCoe Idealize.SL.Sem
namespace Cert.KernelIdeal.Ker
open Cert.KernelIdeal Cert.KernelIdeal.Gen Cert.Val
variable (m : (ℓ : Loc nD τ sig) → Buf (Elt Ideal) ℓ)

/-- The arguments as launched. -/
def args (c : Dev nD) : Args where
  q := m ((c : Thread nD τ).loc main_arg0)
  k := m ((c : Thread nD τ).loc main_arg1)
  ks := m ((c : Thread nD τ).loc main_arg2)
  v := m ((c : Thread nD τ).loc main_arg3)
  vs := m ((c : Thread nD τ).loc main_arg4)
  o := m ((c : Thread nD τ).loc main_arg5)
  lse := m ((c : Thread nD τ).loc main_arg6)
  g := m ((c : Thread nD τ).loc main_arg7)

theorem idx : ∀ t : Fin cfg0.N, win0_0.index t = ![0] ∧ win0_1.index t = ![0] ∧ win0_2.index t = ![t.val / 96, 0, 0] ∧
    win0_3.index t = ![t.val / 8 % 12, t.val / 96, t.val % 8, 0] ∧ win0_4.index t = ![t.val / 8 % 12, t.val / 96, t.val % 8, 0] ∧
    win0_5.index t = ![t.val / 8 % 12, t.val / 96, 0, 0] ∧ win0_6.index t = ![t.val / 8 % 12, t.val / 96, 0, 0] ∧
    win0_7.index t = ![t.val / 8 % 12, t.val / 96, 0, 0] ∧ win0_8.index t = ![t.val / 96, 0, 0] ∧
    win0_9.index t = ![t.val / 8 % 12, t.val / 96, 0, 0] ∧ win0_10.index t = ![t.val / 8 % 12, t.val / 96, t.val % 8, 0] ∧
    win0_11.index t = ![t.val / 8 % 12, t.val / 96, t.val % 8, 0] ∧ win0_12.index t = ![t.val / 8 % 12, t.val / 96, 0, 0] ∧
    win0_13.index t = ![t.val / 8 % 12, t.val / 96, 0, 0] ∧ t.val < 576 :=
  (by decide +kernel : ∀ t : Fin grid0.N, _)

/-- The point's head. -/
def hh (t : Fin cfg0.N) : Fin 6 := ⟨t.val / 96, by have := (idx t).2.2.2.2.2.2.2.2.2.2.2.2.2.2; omega⟩
/-- The point's sequence. -/
def bb (t : Fin cfg0.N) : Fin 12 := ⟨t.val / 8 % 12, by omega⟩
/-- A key of the point's block. -/
def tt (t : Fin cfg0.N) (j : Fin 2048) : Fin 16384 := ⟨t.val % 8 * 2048 + j.val, by omega⟩

variable (c : Dev nD) (t : Fin cfg0.N)

/-! ## The operands the region finds -/

theorem V_v0 : V m c main_v0 = transpose S6x256x128 [1, 0, 2] (m ((c : Thread nD τ).loc main_arg0)) transposes_S256x6x128_S6x256x128_1_0_2 := by
  show StableHlo.after (List.flatten [hostOps0]) _ _ = _
  simp only [hostOps0, List.flatten_cons, List.flatten_nil, List.append_nil]
  after_results
theorem V_v1 : V m c main_v1 = transpose S12x6x16384x128 [0, 2, 1, 3] (m ((c : Thread nD τ).loc main_arg1)) transposes_S12x16384x6x128_S12x6x16384x128_0_2_1_3 := by
  show StableHlo.after (List.flatten [hostOps0]) _ _ = _
  simp only [hostOps0, List.flatten_cons, List.flatten_nil, List.append_nil]
  after_results
theorem V_v2 : V m c main_v2 = transpose S12x6x16384x128 [0, 2, 1, 3] (m ((c : Thread nD τ).loc main_arg3)) transposes_S12x16384x6x128_S12x6x16384x128_0_2_1_3 := by
  show StableHlo.after (List.flatten [hostOps0]) _ _ = _
  simp only [hostOps0, List.flatten_cons, List.flatten_nil, List.append_nil]
  after_results
theorem V_v3 : V m c main_v3 = transpose S12x6x256x128 [0, 2, 1, 3] (m ((c : Thread nD τ).loc main_arg5)) transposes_S12x256x6x128_S12x6x256x128_0_2_1_3 := by
  show StableHlo.after (List.flatten [hostOps0]) _ _ = _
  simp only [hostOps0, List.flatten_cons, List.flatten_nil, List.append_nil]
  after_results
theorem V_v4 : V m c main_v4 = transpose S12x6x256x128 [0, 2, 1, 3] (m ((c : Thread nD τ).loc main_arg7)) transposes_S12x256x6x128_S12x6x256x128_0_2_1_3 := by
  show StableHlo.after (List.flatten [hostOps0]) _ _ = _
  simp only [hostOps0, List.flatten_cons, List.flatten_nil, List.append_nil]
  after_results
theorem V_v5 : V m c main_v5 = shapeCast S12x6x1x256 (m ((c : Thread nD τ).loc main_arg6)) shapeCasts_S12x6x256_S12x6x1x256 := by
  show StableHlo.after (List.flatten [hostOps0]) _ _ = _
  simp only [hostOps0, List.flatten_cons, List.flatten_nil, List.append_nil]
  after_results
  rfl
theorem V_v7 : V m c main_v7 = shapeCast S72 (transpose S6x12 [1, 0] (m ((c : Thread nD τ).loc main_arg2)) transposes_S12x6_S6x12_1_0) shapeCasts_S6x12_S72 := by
  show StableHlo.after (List.flatten [hostOps0]) _ _ = _
  simp only [hostOps0, List.flatten_cons, List.flatten_nil, List.append_nil]
  after_results
  rfl
theorem V_v9 : V m c main_v9 = shapeCast S72 (transpose S6x12 [1, 0] (m ((c : Thread nD τ).loc main_arg4)) transposes_S12x6_S6x12_1_0) shapeCasts_S6x12_S72 := by
  show StableHlo.after (List.flatten [hostOps0]) _ _ = _
  simp only [hostOps0, List.flatten_cons, List.flatten_nil, List.append_nil]
  after_results
  rfl

theorem v0_at (h : Fin 6) (i : Fin 256) (d : Fin 128) : V m c main_v0 (ix3 h i d) = (args m c).q (ix3 i h d) := by
  rw [V_v0]; unfold args; pointwise
theorem v1_at (b : Fin 12) (h : Fin 6) (j : Fin 16384) (d : Fin 128) : V m c main_v1 (ix4 b h j d) = (args m c).k (ix4 b j h d) := by
  rw [V_v1]; unfold args; pointwise
theorem v2_at (b : Fin 12) (h : Fin 6) (j : Fin 16384) (d : Fin 128) : V m c main_v2 (ix4 b h j d) = (args m c).v (ix4 b j h d) := by
  rw [V_v2]; unfold args; pointwise
theorem v3_at (b : Fin 12) (h : Fin 6) (i : Fin 256) (d : Fin 128) : V m c main_v3 (ix4 b h i d) = (args m c).o (ix4 b i h d) := by
  rw [V_v3]; unfold args; pointwise
theorem v4_at (b : Fin 12) (h : Fin 6) (i : Fin 256) (d : Fin 128) : V m c main_v4 (ix4 b h i d) = (args m c).g (ix4 b i h d) := by
  rw [V_v4]; unfold args; pointwise
theorem v5_at (b : Fin 12) (h : Fin 6) (i : Fin 256) : V m c main_v5 (ix4 b h 0 i) = (args m c).lse (ix3 b h i) := by
  rw [V_v5]; unfold args; pointwise
theorem v7_at (b : Fin 12) (h : Fin 6) (n : Fin 72) (hn : n.val = h.val * 12 + b.val) : V m c main_v7 (ix1 n) = (args m c).ks (ix2 b h) := by
  rw [V_v7]; unfold args; pointwise
  blk_ext
theorem v9_at (b : Fin 12) (h : Fin 6) (n : Fin 72) (hn : n.val = h.val * 12 + b.val) : V m c main_v9 (ix1 n) = (args m c).vs (ix2 b h) := by
  rw [V_v9]; unfold args; pointwise
  blk_ext

/-! ## The blocks of a point -/

theorem read2 (i : Fin 256) (d : Fin 128) : iblk m c 2 t (ix3 0 i d) = (args m c).q (ix3 i (hh t) d) := by
  rw [← v0_at]
  unfold hh; blk_ext [iblk, idx t]
theorem read3 (j : Fin 2048) (d : Fin 128) : iblk m c 3 t (ix4 0 0 j d) = (args m c).k (ix4 (bb t) (tt t j) (hh t) d) := by
  rw [← v1_at]
  unfold hh bb tt; blk_ext [iblk, idx t]
theorem read4 (j : Fin 2048) (d : Fin 128) : iblk m c 4 t (ix4 0 0 j d) = (args m c).v (ix4 (bb t) (tt t j) (hh t) d) := by
  rw [← v2_at]
  unfold hh bb tt; blk_ext [iblk, idx t]
theorem read5 (i : Fin 256) (d : Fin 128) : iblk m c 5 t (ix4 0 0 i d) = (args m c).o (ix4 (bb t) i (hh t) d) := by
  rw [← v3_at]
  unfold hh bb; blk_ext [iblk, idx t]
theorem read6 (i : Fin 256) : iblk m c 6 t (ix4 0 0 0 i) = (args m c).lse (ix3 (bb t) (hh t) i) := by
  rw [← v5_at]
  unfold hh bb; blk_ext [iblk, idx t]
theorem read7 (i : Fin 256) (d : Fin 128) : iblk m c 7 t (ix4 0 0 i d) = (args m c).g (ix4 (bb t) i (hh t) d) := by
  rw [← v4_at]
  unfold hh bb; blk_ext [iblk, idx t]

theorem off_at : k0_off1 (grid0.coords t) 0 = t.val / 96 * 12 + t.val / 8 % 12 := by
  have ht : t.val < 576 := Nat.lt_of_lt_of_eq t.isLt N_0
  have e0 : (grid0.coords t 0).val = t.val / 96 % 6 := Pipeline.Grid.coords_val t 0 (by decide) rfl
  have e1 : (grid0.coords t 1).val = t.val / 8 % 12 := Pipeline.Grid.coords_val t 1 (by decide) rfl
  simp only [k0_off1, e0, e1]
  have ha : t.val / 96 < 6 := by omega
  have hb : t.val / 8 % 12 < 12 := by omega
  rw [Nat.mod_eq_of_lt ha]
  generalize t.val / 96 = a at ha ⊢
  generalize t.val / 8 % 12 = b at hb ⊢
  show (IntOp.addi (IntOp.muli (BitVec.ofNat 32 a) 12#32) (BitVec.ofNat 32 b)).toNat = _
  unfold IntOp.addi IntOp.muli
  simp only [BitVec.toNat_add, BitVec.toNat_mul, BitVec.toNat_ofNat]
  omega
theorem entry_at (x : Vec Ideal S72 .f32) (n : Fin 72) (hn : n.val = t.val / 96 * 12 + t.val / 8 % 12) :
    entryOf (F := Ideal) x (grid0.coords t) = x (ix1 n) := by
  have ho := off_at t
  unfold entryOf View.ld
  blk_ext
  exact Eq.trans (b := k0_off1 (grid0.coords t) 0) rfl (ho.trans hn.symm)
theorem ks_at : ksAt m c t = (args m c).ks (ix2 (bb t) (hh t)) := by
  have ht : t.val < 576 := Nat.lt_of_lt_of_eq t.isLt N_0
  unfold ksAt
  rw [entry_at t _ ⟨t.val / 96 * 12 + t.val / 8 % 12, by omega⟩ rfl, ← v7_at m c (bb t) (hh t) ⟨t.val / 96 * 12 + t.val / 8 % 12, by omega⟩ rfl]
  blk_ext [iblk, idx t]
theorem vs_at : vsAt m c t = (args m c).vs (ix2 (bb t) (hh t)) := by
  have ht : t.val < 576 := Nat.lt_of_lt_of_eq t.isLt N_0
  unfold vsAt
  rw [entry_at t _ ⟨t.val / 96 * 12 + t.val / 8 % 12, by omega⟩ rfl, ← v9_at m c (bb t) (hh t) ⟨t.val / 96 * 12 + t.val / 8 % 12, by omega⟩ rfl]
  blk_ext [iblk, idx t]
end Cert.KernelIdeal.Ker
end
-- ==== Proof.Ker.Point.lean ====
/- What a grid point leaves, element by element over the arguments: its block's rows of the gradients of k and v, the codes
   and scales of its rows, and its share of the gradient of the queries. -/
module
public import proofs.«01_k».proof.Proof.Ker.Reads
@[expose] public section
set_option maxRecDepth 16384
noncomputable section
open Idealize.ShloMosaic Idealize.ShloMosaic.TcCoe Idealize.SL.Sem
namespace Cert.KernelIdeal.Ker
open Cert.KernelIdeal Cert.KernelIdeal.Gen Cert.Val
variable (m : (ℓ : Loc nD τ sig) → Buf (Elt Ideal) ℓ) (c : Dev nD) (t : Fin cfg0.N)

theorem s2_pt (i : Fin 256) (d : Fin 128) : s2B (F := Ideal) (iblk m c 6 t) (ix2 i d) = (args m c).lse (ix3 (bb t) (hh t) i) * (((Real.log 2)⁻¹ : ℝ) : EReal) :=
  s2_at i (args m c) (bb t) (hh t) _ (read6 m c t) d
theorem s0_pt (d : Fin 128) (i : Fin 256) : s0B (F := Ideal) (iblk m c 2 t) (ix2 d i) = (args m c).q (ix3 i (hh t) d) :=
  s0_at i (args m c) (hh t) _ (read2 m c t) d

/-- A chunk's entry is the block's, past the chunk's offset. -/
theorem chunk_at {φ : EltTy} (x : Vec Ideal S1x1x2048x128 φ) (o : ℕ) (hi : ∀ a, (![0, 0, o, 0] : Fin 4 → ℕ) a + S1x1x256x128.size a ≤ S1x1x2048x128.size a)
    (j : Fin 256) (e : Fin 128) (k : Fin 2048) (hk : k.val = o + j.val) :
    View.ld (Val := Elt Ideal) (e' := φ) x (Rect.unit (s := S1x1x2048x128) ![0, 0, o, 0] S1x1x256x128.size hi) (ix4 0 0 j e) = x (ix4 0 0 k e) := by
  refine congrArg x (funext fun a => Fin.ext ?_)
  match a with
  | ⟨0, _⟩ => rfl
  | ⟨1, _⟩ => rfl
  | ⟨2, _⟩ => show o + 1 * j.val = k.val; omega
  | ⟨3, _⟩ => show 0 + 1 * e.val = e.val; omega

variable (hf : (args m c).Finite)
include hf
theorem code_pt (i : Fin 256) (d : Fin 128) : codeB (F := Ideal) (iblk m c 7 t) (ix4 0 0 i d) = (args m c).cod (bb t) i (hh t) d :=
  code_at _ i (args m c) hf (bb t) (hh t) (read7 m c t) d
theorem scale_pt (i : Fin 256) : scaleB (F := Ideal) (iblk m c 7 t) (ix4 0 0 0 i) = (args m c).dos (bb t) i (hh t) :=
  scale_at _ i (args m c) hf (bb t) (hh t) (read7 m c t)
theorem s1_pt (d : Fin 128) (i : Fin 256) : s1B (F := Ideal) (iblk m c 7 t) (ix2 d i) = (args m c).cod (bb t) i (hh t) d * (args m c).dos (bb t) i (hh t) :=
  s1_at _ i (args m c) hf (bb t) (hh t) (read7 m c t) d
theorem s3_pt (i : Fin 256) (d : Fin 128) : s3B (F := Ideal) (vsAt m c t) (iblk m c 7 t) (ix2 i d) = (args m c).dos (bb t) i (hh t) * (args m c).vs (ix2 (bb t) (hh t)) := by
  rw [vs_at]; exact s3_at _ i (args m c) hf (bb t) (hh t) (read7 m c t) _ d
theorem s4_pt (i : Fin 256) (d : Fin 128) : s4B (F := Ideal) (iblk m c 5 t) (iblk m c 7 t) (ix2 i d) = (args m c).delta (bb t) (hh t) i :=
  s4_at _ i (args m c) hf (bb t) (hh t) _ (read5 m c t) (read7 m c t) d

set_option maxHeartbeats 1600000 in
theorem dv_pt (J : Fin 2048) (d : Fin 128) :
    dvB (F := Ideal) (grid0.coords t) (iblk m c 0 t) (iblk m c 2 t) (iblk m c 3 t) (iblk m c 6 t) (iblk m c 7 t) (ix4 0 0 J d) =
      (args m c).dv (bb t) (tt t J) (hh t) d := by
  unfold dvB dvT
  canon_tiles x hx
  all_goals
    idx_vars x
    obtain rfl : x0 = 0 := Subsingleton.elim _ _
    obtain rfl : x1 = 0 := Subsingleton.elim _ _
    obtain rfl : d = x3 := Fin.ext hx3
    refine (dv_at (args m c) (bb t) (hh t) _ (read2 m c t) _ (fun j => tt t ⟨J.val - x2.val + j.val, by omega⟩) (fun j e => ?_) _ _ (ks_at m c t) (s2_pt m c t) _ (s1_pt m c t hf) _ _).trans ?_
    · rw [← read3]
      exact chunk_at (iblk m c 3 t) _ _ j e _ (by show J.val - x2.val + j.val = _; omega)
    · exact congrArg (fun j => (args m c).dv (bb t) (tt t j) (hh t) d) (Fin.ext (by show J.val - x2.val + x2.val = J.val; omega))

set_option maxHeartbeats 1600000 in
theorem dk_pt (J : Fin 2048) (d : Fin 128) :
    dkB (F := Ideal) (grid0.coords t) (iblk m c 0 t) (iblk m c 1 t) (iblk m c 2 t) (iblk m c 3 t) (iblk m c 4 t) (iblk m c 5 t) (iblk m c 6 t) (iblk m c 7 t)
      (ix4 0 0 J d) = (args m c).dk (bb t) (tt t J) (hh t) d := by
  unfold dkB dkT
  canon_tiles x hx
  all_goals
    idx_vars x
    obtain rfl : x0 = 0 := Subsingleton.elim _ _
    obtain rfl : x1 = 0 := Subsingleton.elim _ _
    obtain rfl : d = x3 := Fin.ext hx3
    refine (dk_at (args m c) (bb t) (hh t) _ (read2 m c t) _ _ (fun j => tt t ⟨J.val - x2.val + j.val, by omega⟩) (fun j e => ?_) (fun j e => ?_) _ _ _ _
      (ks_at m c t) _ (s2_pt m c t) (code_pt m c t hf) (s3_pt m c t hf) (s4_pt m c t hf) _ (s0_pt m c t) _ _).trans ?_
    · rw [← read3]
      exact chunk_at (iblk m c 3 t) _ _ j e _ (by show J.val - x2.val + j.val = _; omega)
    · rw [← read4]
      exact chunk_at (iblk m c 4 t) _ _ j e _ (by show J.val - x2.val + j.val = _; omega)
    · exact congrArg (fun j => (args m c).dk (bb t) (tt t j) (hh t) d) (Fin.ext (by show J.val - x2.val + x2.val = J.val; omega))

/-- A key's share of the gradient of the queries at the point's head and sequence. -/
def share (a : Args) (b : Fin 12) (h : Fin 6) (i : Fin 256) (d : Fin 128) (s : Fin 16384) : EReal := a.ds b h i s * a.k (ix4 b s h d)

set_option maxHeartbeats 1600000 in
theorem acc_pt (x : Vec Ideal S256x128 .f32) (i : Fin 256) (d : Fin 128) :
    accP (F := Ideal) m c t x (ix2 i d) = x (ix2 i d) + ∑ J : Fin 2048, share (args m c) (bb t) (hh t) i d (tt t J) := by
  have H (o : ℕ) (ho : o ≤ 1792) (k v : Vec Ideal S1x1x256x128 .fp8e4m3) (hk : ∀ j e, k (ix4 0 0 j e) = iblk m c 3 t (ix4 0 0 ⟨o + j.val, by omega⟩ e))
      (hv : ∀ j e, v (ix4 0 0 j e) = iblk m c 4 t (ix4 0 0 ⟨o + j.val, by omega⟩ e)) :
      dqC (F := Ideal) (entryOf (iblk m c 0 t) (grid0.coords t)) (iblk m c 2 t) (codeB (iblk m c 7 t)) (s2B (iblk m c 6 t))
        (s3B (entryOf (iblk m c 1 t) (grid0.coords t)) (iblk m c 7 t)) (s4B (iblk m c 5 t) (iblk m c 7 t)) k v (ix2 i d) =
        ∑ j : Fin 256, share (args m c) (bb t) (hh t) i d (tt t ⟨o + j.val, by omega⟩) :=
    dq_at i (args m c) (bb t) (hh t) _ (read2 m c t) _ _ (fun j => tt t ⟨o + j.val, by omega⟩) (fun j e => (hk j e).trans (read3 m c t _ e))
      (fun j e => (hv j e).trans (read4 m c t _ e)) _ _ _ _ (ks_at m c t) _ (s2_pt m c t) (code_pt m c t hf) (s3_pt m c t hf) (s4_pt m c t hf) d
  rw [Fin.sum_univ_tiles 8 256 rfl, Fin.sum_univ_eight]
  unfold accP accB accT
  pointwise
  rw [H 0 (by omega), H 256 (by omega), H 512 (by omega), H 768 (by omega), H 1024 (by omega), H 1280 (by omega), H 1536 (by omega), H 1792 (by omega)]
  · rfl
  all_goals
    intro j e
    exact chunk_at _ _ _ j e _ rfl

end Cert.KernelIdeal.Ker
end
-- ==== Proof.Ker.Sums.lean ====
/- The two running sums of a head: a sequence's gradient of the queries over its blocks of keys, and the gradient of the
   queries over the sequences. -/
module
public import proofs.«01_k».proof.Proof.Ker.Point
@[expose] public section
set_option maxRecDepth 16384
noncomputable section
open Idealize.ShloMosaic Idealize.ShloMosaic.TcCoe Idealize.SL.Sem
namespace Cert.KernelIdeal.Ker
open Cert.KernelIdeal Cert.KernelIdeal.Gen Cert.Val
variable (m : (ℓ : Loc nD τ sig) → Buf (Elt Ideal) ℓ) (c : Dev nD) (hf : (args m c).Finite)

/-- A block's share of a sequence's gradient of the queries. -/
def part (a : Args) (b : Fin 12) (h : Fin 6) (i : Fin 256) (d : Fin 128) (s : ℕ) : EReal :=
  ∑ J : Fin 2048, if hs : s * 2048 + J.val < 16384 then share a b h i d ⟨s * 2048 + J.val, hs⟩ else 0

theorem parts (a : Args) (b : Fin 12) (h : Fin 6) (i : Fin 256) (d : Fin 128) :
    ∑ s ∈ Finset.range 8, part a b h i d s = ∑ s : Fin 16384, share a b h i d s := by
  rw [Finset.sum_range, Fin.sum_univ_tiles 8 2048 rfl]
  refine Finset.sum_congr rfl fun s _ => ?_
  unfold part
  refine Finset.sum_congr rfl fun J _ => ?_
  rw [dif_pos (by omega)]

theorem pay25_at (i : Fin 256) (d : Fin 128) : k0_pay25 (F := Ideal) (ix2 i d) = 0 := by
  pointwise [k0_pay25]

include hf in
theorem acc_step (t : Fin cfg0.N) (x : Vec Ideal S256x128 .f32) (i : Fin 256) (d : Fin 128) :
    accP (F := Ideal) m c t x (ix2 i d) = x (ix2 i d) + part (args m c) (bb t) (hh t) i d (t.val % 8) := by
  rw [acc_pt m c t hf]
  refine congrArg _ (Finset.sum_congr rfl fun J _ => ?_)
  rw [dif_pos (by omega)]
  rfl

include hf in
theorem acc_upto (r : ℕ) : ∀ (t : Fin cfg0.N), t.val % 8 = r → ∀ (i : Fin 256) (d : Fin 128),
    accAt m c t.val t.isLt (ix2 i d) = ∑ s ∈ Finset.range (r + 1), part (args m c) (bb t) (hh t) i d s := by
  induction r with
  | zero =>
    intro t h i d
    rw [accAt_first m c t h, acc_step m c hf, pay25_at, h, zero_add, Finset.sum_range_one]
  | succ r ih =>
    intro t h i d
    have hp := ih ⟨t.val - 1, Nat.lt_of_le_of_lt (Nat.sub_le _ _) t.isLt⟩ (by show (t.val - 1) % 8 = r; omega) i d
    have hb : bb ⟨t.val - 1, Nat.lt_of_le_of_lt (Nat.sub_le _ _) t.isLt⟩ = bb t := Fin.ext (by show (t.val - 1) / 8 % 12 = t.val / 8 % 12; omega)
    have hh' : hh ⟨t.val - 1, Nat.lt_of_le_of_lt (Nat.sub_le _ _) t.isLt⟩ = hh t := Fin.ext (by show (t.val - 1) / 96 = t.val / 96; omega)
    rw [accAt_later m c t (by omega), acc_step m c hf, h, Finset.sum_range_succ, ← hb, ← hh']
    exact congrArg (· + _) hp

include hf in
/-- At a sequence's last block the running gradient is the sum over all its keys. -/
theorem acc_last (t : Fin cfg0.N) (h : t.val % 8 = 7) (i : Fin 256) (d : Fin 128) :
    k0_pay1 (ksAt m c t) (accAt m c t.val t.isLt) (ix2 i d) = (args m c).dqs (bb t) i (hh t) d := by
  pointwise [k0_pay1]
  rw [acc_upto m c hf 7 t h, parts, ks_at]
  rfl

theorem tot_back (k : ℕ) : ∀ n (hn : n < cfg0.N), n % 8 = k → k < 7 → 8 ≤ n →
    totAt m c n hn = totAt m c (n - k - 1) (by omega) := by
  induction k with
  | zero =>
    intro n hn h _ h8
    exact totAt_other m c ⟨n, hn⟩ (by show ¬ n % 8 = 7; omega) (by show n ≠ 0; omega)
  | succ k ih =>
    intro n hn h hk h8
    refine (totAt_other m c ⟨n, hn⟩ (by show ¬ n % 8 = 7; omega) (by show n ≠ 0; omega)).trans ?_
    refine (ih (n - 1) (by omega) (by omega) (by omega) (by omega)).trans ?_
    congr 1; omega

include hf in
theorem tot_upto (b : ℕ) : ∀ (t : Fin cfg0.N), t.val % 8 = 7 → t.val / 8 % 12 = b → ∀ (i : Fin 256) (d : Fin 128),
    totAt m c t.val t.isLt (ix2 i d) = ∑ s ∈ Finset.range (b + 1), if hs : s < 12 then (args m c).dqs ⟨s, hs⟩ i (hh t) d else 0 := by
  induction b with
  | zero =>
    intro t h hb i d
    have hbb : bb t = ⟨0, by omega⟩ := Fin.ext hb
    rw [totAt_last m c t h, totB, if_pos ((isFst_iff t).mpr hb), Finset.sum_range_one, dif_pos (by omega), ← hbb, ← acc_last m c hf t h]
    pointwise [k0_pay3]
  | succ b ih =>
    intro t h hb i d
    have ht : t.val < 576 := Nat.lt_of_lt_of_eq t.isLt N_0
    have hbb : bb t = ⟨b + 1, by omega⟩ := Fin.ext hb
    have hp := ih ⟨t.val - 8, Nat.lt_of_le_of_lt (Nat.sub_le _ _) t.isLt⟩ (by show (t.val - 8) % 8 = 7; omega) (by show (t.val - 8) / 8 % 12 = b; omega) i d
    have hh' : hh ⟨t.val - 8, Nat.lt_of_le_of_lt (Nat.sub_le _ _) t.isLt⟩ = hh t := Fin.ext (by show (t.val - 8) / 96 = t.val / 96; omega)
    have hq := tot_back m c 6 (t.val - 1) (Nat.lt_of_le_of_lt (Nat.sub_le _ _) t.isLt) (by omega) (by omega) (by omega)
    rw [totAt_last m c t h, totB, if_neg (fun hx => by rw [isFst_iff] at hx; omega), Finset.sum_range_succ, dif_pos (by omega), ← hbb, ← acc_last m c hf t h, hq, ← hh']
    pointwise [k0_pay4]
    refine congrArg (· + _) ?_
    rw [← hp]
    congr 1

include hf in
/-- At a head's last sequence the sum over the sequences is the gradient of the queries. -/
theorem tot_last (t : Fin cfg0.N) (h : t.val % 96 = 95) (i : Fin 256) (d : Fin 128) :
    totAt m c t.val t.isLt (ix2 i d) = (args m c).dq i (hh t) d := by
  rw [tot_upto m c hf 11 t (by omega) (by omega), Finset.sum_range]
  exact Finset.sum_congr rfl fun s _ => dif_pos s.isLt
end Cert.KernelIdeal.Ker
end
-- ==== Proof.Ker.Final.lean ====
/- The kernel's output arrays after the run, over the arguments as launched. -/
module
public import proofs.«01_k».proof.Proof.Ker.Sums
@[expose] public section
set_option maxRecDepth 16384
noncomputable section
open Idealize.ShloMosaic Idealize.ShloMosaic.TcCoe Idealize.SL.Sem
namespace Cert.KernelIdeal.Ker
open Cert.KernelIdeal Cert.KernelIdeal.Gen Cert.Val

/-- The gradient of the queries, heads first. -/
def A8 (a : Args) : Vec Ideal S6x256x128 .bf16 := fun j => a.dq (j 1) (j 0) (j 2)
/-- The sequences' gradients of the queries, heads first. -/
def A9 (a : Args) : Vec Ideal S12x6x256x128 .f32 := fun j => a.dqs (j 0) (j 2) (j 1) (j 3)
/-- The gradient of the keys, heads first. -/
def A10 (a : Args) : Vec Ideal S12x6x16384x128 .bf16 := fun j => a.dk (j 0) (j 2) (j 1) (j 3)
/-- The gradient of the values, heads first. -/
def A11 (a : Args) : Vec Ideal S12x6x16384x128 .bf16 := fun j => a.dv (j 0) (j 2) (j 1) (j 3)
/-- The codes, heads first. -/
def A12 (a : Args) : Vec Ideal S12x6x256x128 .fp8e5m2 := fun j => a.cod (j 0) (j 2) (j 1) (j 3)
/-- The scales, heads first. -/
def A13 (a : Args) : Vec Ideal S12x6x1x256 .f32 := fun j => a.dos (j 0) (j 3) (j 1)

variable (m : (ℓ : Loc nD τ sig) → Buf (Elt Ideal) ℓ) (c : Dev nD) (hf : (args m c).Finite)

theorem pay5_at (x : Vec Ideal S256x128 .f32) (i : Fin 256) (d : Fin 128) : k0_pay5 (F := Ideal) x (ix3 0 i d) = x (ix2 i d) := by
  pointwise [k0_pay5]
theorem pay2_at (k : Ideal .f32) (x : Vec Ideal S256x128 .f32) (i : Fin 256) (d : Fin 128) : k0_pay2 (F := Ideal) k x (ix4 0 0 i d) = k0_pay1 (F := Ideal) k x (ix2 i d) := by
  pointwise [k0_pay2]

include hf
theorem final8 : (dats m 0 c).arrAt 8 cfg0.N = A8 (args m c) := by
  refine (dats m 0 c).arrAt_eq_of_covers 8 _ (by decide +kernel) fun t ht y => ?_
  have h := (flush0_8 t).mp ht
  blk_simp
  rw [after_8]
  idx_vars y
  obtain rfl : y0 = 0 := Subsingleton.elim _ _
  refine (pay5_at _ _ _).trans ((tot_last m c hf t h _ _).trans ?_)
  show A8 (args m c) (ix3 (hh t) y1 y2) = A8 (args m c) _
  generalize A8 (args m c) = X
  unfold hh; blk_ext [idx t]
theorem final9 : (dats m 0 c).arrAt 9 cfg0.N = A9 (args m c) := by
  refine (dats m 0 c).arrAt_eq_of_covers 9 _ (by decide +kernel) fun t ht y => ?_
  have h := (flush0_9 t).mp ht
  blk_simp
  rw [after_9]
  idx_vars y
  obtain rfl : y0 = 0 := Subsingleton.elim _ _
  obtain rfl : y1 = 0 := Subsingleton.elim _ _
  refine (pay2_at _ _ _ _).trans ((acc_last m c hf t h _ _).trans ?_)
  show A9 (args m c) (ix4 (bb t) (hh t) y2 y3) = A9 (args m c) _
  generalize A9 (args m c) = X
  unfold bb hh; blk_ext [idx t]
theorem final10 : (dats m 0 c).arrAt 10 cfg0.N = A10 (args m c) := by
  refine (dats m 0 c).arrAt_eq_of_covers 10 _ (by decide +kernel) fun t ht y => ?_
  blk_simp
  rw [after_10]
  idx_vars y
  obtain rfl : y0 = 0 := Subsingleton.elim _ _
  obtain rfl : y1 = 0 := Subsingleton.elim _ _
  refine (dk_pt m c t hf _ _).trans ?_
  show A10 (args m c) (ix4 (bb t) (hh t) (tt t y2) y3) = A10 (args m c) _
  generalize A10 (args m c) = X
  unfold bb hh tt; blk_ext [idx t]
theorem final11 : (dats m 0 c).arrAt 11 cfg0.N = A11 (args m c) := by
  refine (dats m 0 c).arrAt_eq_of_covers 11 _ (by decide +kernel) fun t ht y => ?_
  blk_simp
  rw [after_11]
  idx_vars y
  obtain rfl : y0 = 0 := Subsingleton.elim _ _
  obtain rfl : y1 = 0 := Subsingleton.elim _ _
  refine (dv_pt m c t hf _ _).trans ?_
  show A11 (args m c) (ix4 (bb t) (hh t) (tt t y2) y3) = A11 (args m c) _
  generalize A11 (args m c) = X
  unfold bb hh tt; blk_ext [idx t]
theorem final12 : (dats m 0 c).arrAt 12 cfg0.N = A12 (args m c) := by
  refine (dats m 0 c).arrAt_eq_of_covers 12 _ (by decide +kernel) fun t ht y => ?_
  blk_simp
  rw [after_12]
  idx_vars y
  obtain rfl : y0 = 0 := Subsingleton.elim _ _
  obtain rfl : y1 = 0 := Subsingleton.elim _ _
  refine (code_pt m c t hf _ _).trans ?_
  show A12 (args m c) (ix4 (bb t) (hh t) y2 y3) = A12 (args m c) _
  generalize A12 (args m c) = X
  unfold bb hh; blk_ext [idx t]
theorem final13 : (dats m 0 c).arrAt 13 cfg0.N = A13 (args m c) := by
  refine (dats m 0 c).arrAt_eq_of_covers 13 _ (by decide +kernel) fun t ht y => ?_
  blk_simp
  rw [after_13]
  idx_vars y
  obtain rfl : y0 = 0 := Subsingleton.elim _ _
  obtain rfl : y1 = 0 := Subsingleton.elim _ _
  obtain rfl : y2 = 0 := Subsingleton.elim _ _
  refine (scale_pt m c t hf _).trans ?_
  show A13 (args m c) (ix4 (bb t) (hh t) 0 y3) = A13 (args m c) _
  generalize A13 (args m c) = X
  unfold bb hh; blk_ext [idx t]
end Cert.KernelIdeal.Ker
end
-- ==== Proof.Val.Out.lean ====
/- The six results, over the arguments. -/
module
public import proofs.«01_k».proof.Proof.Val.Spec
@[expose] public section
set_option maxRecDepth 16384
noncomputable section
namespace Cert.Val
open Idealize.ShloMosaic Cert.KernelIdeal
variable (a : Args)
/-- The gradient of the queries. -/
def Args.out0 : Vec Ideal S256x6x128 .bf16 := fun j => a.dq (j 0) (j 1) (j 2)
/-- The sequences' gradients of the queries. -/
def Args.out1 : Vec Ideal S12x256x6x128 .f32 := fun j => a.dqs (j 0) (j 1) (j 2) (j 3)
/-- The gradient of the keys. -/
def Args.out2 : Vec Ideal S12x16384x6x128 .bf16 := fun j => a.dk (j 0) (j 1) (j 2) (j 3)
/-- The gradient of the values. -/
def Args.out3 : Vec Ideal S12x16384x6x128 .bf16 := fun j => a.dv (j 0) (j 1) (j 2) (j 3)
/-- The codes of the output's gradient. -/
def Args.out4 : Vec Ideal S12x256x6x128 .fp8e5m2 := fun j => a.cod (j 0) (j 1) (j 2) (j 3)
/-- The scales of the output's gradient. -/
def Args.out5 : Vec Ideal S12x256x6 .f32 := fun j => a.dos (j 0) (j 1) (j 2)
end Cert.Val
end
-- ==== Proof.Ker.Out.lean ====
/- The kernel's run: its results over the arguments as launched. -/
module
public import proofs.«01_k».proof.Proof.Ker.Final
public import proofs.«01_k».proof.Proof.Val.Out
@[expose] public section
set_option maxRecDepth 16384
noncomputable section
open Idealize.ShloMosaic Idealize.ShloMosaic.TcCoe Idealize.SL.Sem
namespace Cert.KernelIdeal.Ker
open Cert.KernelIdeal Cert.KernelIdeal.Gen Cert.Val
variable (m : (ℓ : Loc nD τ sig) → Buf (Elt Ideal) ℓ) (ρ : Dev nD → PrngReg)

/-- What the lines after the region leave. -/
abbrev tail (c : Dev nD) (r : Ref sig .tc) := Pipeline.afterTail₀ cfgs (dats m) 0 (V0 m) [hostOps1] c r
variable (c : Dev nD)

theorem w11 : tail m c main_v11 = transpose S256x6x128 [1, 0, 2] ((dats m 0 c).arrAt 8 cfg0.N) transposes_S6x256x128_S256x6x128_1_0_2 := by
  unfold tail Pipeline.afterTail₀
  simp only [hostOps1, List.flatten_cons, List.flatten_nil, List.append_nil]
  after_results
  rw [Pipeline.Dat.withArrays_arrAt (dats m 0 c) (by decide) (V0 m c) (A_eq m c) 8]
theorem w12 : tail m c main_v12 = transpose S12x256x6x128 [0, 2, 1, 3] ((dats m 0 c).arrAt 9 cfg0.N) transposes_S12x6x256x128_S12x256x6x128_0_2_1_3 := by
  unfold tail Pipeline.afterTail₀
  simp only [hostOps1, List.flatten_cons, List.flatten_nil, List.append_nil]
  after_results
  rw [Pipeline.Dat.withArrays_arrAt (dats m 0 c) (by decide) (V0 m c) (A_eq m c) 9]
theorem w13 : tail m c main_v13 = transpose S12x16384x6x128 [0, 2, 1, 3] ((dats m 0 c).arrAt 10 cfg0.N) transposes_S12x6x16384x128_S12x16384x6x128_0_2_1_3 := by
  unfold tail Pipeline.afterTail₀
  simp only [hostOps1, List.flatten_cons, List.flatten_nil, List.append_nil]
  after_results
  rw [Pipeline.Dat.withArrays_arrAt (dats m 0 c) (by decide) (V0 m c) (A_eq m c) 10]
theorem w14 : tail m c main_v14 = transpose S12x16384x6x128 [0, 2, 1, 3] ((dats m 0 c).arrAt 11 cfg0.N) transposes_S12x6x16384x128_S12x16384x6x128_0_2_1_3 := by
  unfold tail Pipeline.afterTail₀
  simp only [hostOps1, List.flatten_cons, List.flatten_nil, List.append_nil]
  after_results
  rw [Pipeline.Dat.withArrays_arrAt (dats m 0 c) (by decide) (V0 m c) (A_eq m c) 11]
theorem w15 : tail m c main_v15 = transpose S12x256x6x128 [0, 2, 1, 3] ((dats m 0 c).arrAt 12 cfg0.N) transposes_S12x6x256x128_S12x256x6x128_0_2_1_3 := by
  unfold tail Pipeline.afterTail₀
  simp only [hostOps1, List.flatten_cons, List.flatten_nil, List.append_nil]
  after_results
  rw [Pipeline.Dat.withArrays_arrAt (dats m 0 c) (by decide) (V0 m c) (A_eq m c) 12]
theorem w17 : tail m c main_v17 = transpose S12x256x6 [0, 2, 1] (shapeCast S12x6x256 ((dats m 0 c).arrAt 13 cfg0.N) shapeCasts_S12x6x1x256_S12x6x256) transposes_S12x6x256_S12x256x6_0_2_1 := by
  rw [← Pipeline.Dat.withArrays_arrAt (dats m 0 c) (by decide) (V0 m c) (A_eq m c) 13]
  unfold tail Pipeline.afterTail₀
  simp only [hostOps1, List.flatten_cons, List.flatten_nil, List.append_nil]
  after_results
  rfl

theorem squeeze_at (x : Vec Ideal S12x6x1x256 .f32) (b : Fin 12) (l : Fin 256) (h : Fin 6) :
    transpose S12x256x6 [0, 2, 1] (shapeCast S12x6x256 x shapeCasts_S12x6x1x256_S12x6x256) transposes_S12x6x256_S12x256x6_0_2_1 (ix3 b l h) = x (ix4 b h 0 l) := by
  pointwise

variable (hf : ∀ c, (args m c).Finite)
include hf
theorem o11 : tail m c main_v11 = (args m c).out0 := by
  rw [w11, final8 m c (hf c)]; funext j; idx_vars j; pointwise; rfl
theorem o12 : tail m c main_v12 = (args m c).out1 := by
  rw [w12, final9 m c (hf c)]; funext j; idx_vars j; pointwise; rfl
theorem o13 : tail m c main_v13 = (args m c).out2 := by
  rw [w13, final10 m c (hf c)]; funext j; idx_vars j; pointwise; rfl
theorem o14 : tail m c main_v14 = (args m c).out3 := by
  rw [w14, final11 m c (hf c)]; funext j; idx_vars j; pointwise; rfl
theorem o15 : tail m c main_v15 = (args m c).out4 := by
  rw [w15, final12 m c (hf c)]; funext j; idx_vars j; pointwise; rfl
theorem o17 : tail m c main_v17 = (args m c).out5 := by
  rw [w17, final13 m c (hf c)]
  funext j
  rw [eq_ix3 j]
  exact squeeze_at _ _ _ _

theorem run : θ_run (defs (F := Ideal)) (onTc (τ := τ) (main (F := Ideal))) ⟨m, fun _ => 0, ρ⟩ (fun r => ∀ c : Dev nD,
      r.2.mem ((c.tc : Thread nD τ).loc main_v11) = (args m c).out0
      ∧ r.2.mem ((c.tc : Thread nD τ).loc main_v12) = (args m c).out1
      ∧ r.2.mem ((c.tc : Thread nD τ).loc main_v13) = (args m c).out2
      ∧ r.2.mem ((c.tc : Thread nD τ).loc main_v14) = (args m c).out3
      ∧ r.2.mem ((c.tc : Thread nD τ).loc main_v15) = (args m c).out4
      ∧ r.2.mem ((c.tc : Thread nD τ).loc main_v17) = (args m c).out5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h.1 c).2 main_v11 (Pipeline.mem_restRefs_of main_v11 (by decide) (by decide))).trans (o11 m c hf),
     ((h.1 c).2 main_v12 (Pipeline.mem_restRefs_of main_v12 (by decide) (by decide))).trans (o12 m c hf),
     ((h.1 c).2 main_v13 (Pipeline.mem_restRefs_of main_v13 (by decide) (by decide))).trans (o13 m c hf),
     ((h.1 c).2 main_v14 (Pipeline.mem_restRefs_of main_v14 (by decide) (by decide))).trans (o14 m c hf),
     ((h.1 c).2 main_v15 (Pipeline.mem_restRefs_of main_v15 (by decide) (by decide))).trans (o15 m c hf),
     ((h.1 c).2 main_v17 (Pipeline.mem_restRefs_of main_v17 (by decide) (by decide))).trans (o17 m c hf), h.2 c⟩)
    (θ_run_and (run_main m ρ) (unchanged m ρ))
end Cert.KernelIdeal.Ker
end
-- ==== Proof.Ref.Ops.lean ====
/- The reference's operations, element by element, over variables. -/
module
public import proofs.«01_k».proof.Proof.Gen.ReferenceIdeal
public import proofs.«01_k».proof.Proof.Gen.ReferenceIdeal.Skeleton
public import proofs.«01_k».proof.Proof.Val.Out
@[expose] public section
set_option maxRecDepth 16384
noncomputable section
open Idealize.ShloMosaic Idealize.ShloMosaic.TcCoe
namespace Cert.ReferenceIdeal.Ref
open Cert.ReferenceIdeal Cert.ReferenceIdeal.Gen Cert.Val

/-- The rows' largest magnitudes over 57344. -/
def yR (g : FVec Ideal S12x256x6x128 .bf16) : FVec Ideal S12x256x6x1 .f32 :=
  mulf (broadcastInDim S12x256x6x1 ![0, 1, 2] bcast_S12x256x6_S12x256x6x1_0_1_2
      (Host.reduce FloatOps.maximumf (Host.absf (extf FTy.f32 g bitsLt_bf16_f32)) (constant S_ FTy.f32 0xFF800000#32) reducesTo_S12x256x6x128_S12x256x6_d3 h_S_))
    (broadcastInDim S12x256x6x1 ![] bcast_S_S12x256x6x1 (constant S_ FTy.f32 0x37924925#32))
/-- The attention weights. -/
def pR (q : FVec Ideal S256x6x128 .bf16) (k : FVec Ideal S12x16384x6x128 .bf16) (ks : FVec Ideal S12x6 .f32) (lse : FVec Ideal S12x6x256 .f32) : FVec Ideal S12x6x256x16384 .f32 :=
  Host.exp (subf (mulf (broadcastInDim S12x6x256x16384 ![0, 1, 2, 3] bcast_S12x6x1x1_S12x6x256x16384_0_1_2_3 (broadcastInDim S12x6x1x1 ![0, 1] bcast_S12x6_S12x6x1x1_0_1
        (mulf (broadcastInDim S12x6 ![] bcast_S_S12x6 (constant S_ .f32 0x3DB504F3#32)) ks)))
      (transpose S12x6x256x16384 [1, 0, 3, 2] (Host.dotGeneral dot_S12x16384x6x128_S256x6x128_S6x12x16384x256_3_2_01_0_2_1 none k q) transposes_S6x12x16384x256_S12x6x256x16384_1_0_3_2))
    (broadcastInDim S12x6x256x16384 ![0, 1, 2, 3] bcast_S12x6x256x1_S12x6x256x16384_0_1_2_3 (broadcastInDim S12x6x256x1 ![0, 1, 2] bcast_S12x6x256_S12x6x256x1_0_1_2 lse)))
/-- The rows' sums of the gradient by the output. -/
def deltaR (cd : FVec Ideal S12x256x6x128 .f32) (dos : FVec Ideal S12x256x6 .f32) (o : FVec Ideal S12x256x6x128 .bf16) : FVec Ideal S12x256x6 .f32 :=
  Host.reduceAdd (mulf (mulf cd (broadcastInDim S12x256x6x128 ![0, 1, 2, 3] bcast_S12x256x6x1_S12x256x6x128_0_1_2_3 (broadcastInDim S12x256x6x1 ![0, 1, 2] bcast_S12x256x6_S12x256x6x1_0_1_2 dos)))
    (extf .f32 o bitsLt_bf16_f32)) (constant S_ .f32 0x00000000#32) reducesTo_S12x256x6x128_S12x256x6_d3 h_S_
/-- The gradient of the scores. -/
def dsR (p : FVec Ideal S12x6x256x16384 .f32) (cd : FVec Ideal S12x256x6x128 .f32) (dos : FVec Ideal S12x256x6 .f32) (vs : FVec Ideal S12x6 .f32)
    (v : FVec Ideal S12x16384x6x128 .bf16) (dl : FVec Ideal S12x256x6 .f32) : FVec Ideal S12x6x256x16384 .bf16 :=
  truncf .bf16 (mulf p (subf
    (mulf (broadcastInDim S12x6x256x16384 ![0, 1, 2, 3] bcast_S12x6x256x1_S12x6x256x16384_0_1_2_3 (broadcastInDim S12x6x256x1 ![0, 1, 2] bcast_S12x6x256_S12x6x256x1_0_1_2
        (mulf (transpose S12x6x256 [0, 2, 1] dos transposes_S12x256x6_S12x6x256_0_2_1)
          (broadcastInDim S12x6x256 ![0, 1, 2] bcast_S12x6x1_S12x6x256_0_1_2 (broadcastInDim S12x6x1 ![0, 1] bcast_S12x6_S12x6x1_0_1 vs)))))
      (Host.dotGeneral dot_S12x256x6x128_S12x16384x6x128_S12x6x256x16384_3_3_1_1_02_02 none (truncf .bf16 cd bitsLt_bf16_f32) v))
    (broadcastInDim S12x6x256x16384 ![0, 1, 2, 3] bcast_S12x6x256x1_S12x6x256x16384_0_1_2_3 (broadcastInDim S12x6x256x1 ![0, 1, 2] bcast_S12x6x256_S12x6x256x1_0_1_2
      (transpose S12x6x256 [0, 2, 1] dl transposes_S12x256x6_S12x6x256_0_2_1))))) bitsLt_bf16_f32
/-- The gradient of the values. -/
def dvR (p : FVec Ideal S12x6x256x16384 .f32) (cd : FVec Ideal S12x256x6x128 .f32) (dos : FVec Ideal S12x256x6 .f32) : FVec Ideal S12x16384x6x128 .bf16 :=
  truncf .bf16 (transpose S12x16384x6x128 [0, 3, 1, 2] (Host.dotGeneral dot_S12x256x6x128_S12x6x256x16384_S12x6x128x16384_1_2_3_3_02_01 none
    (mulf (truncf .bf16 cd bitsLt_bf16_f32) (broadcastInDim S12x256x6x128 ![0, 1, 2, 3] bcast_S12x256x6x1_S12x256x6x128_0_1_2_3
      (truncf .bf16 (broadcastInDim S12x256x6x1 ![0, 1, 2] bcast_S12x256x6_S12x256x6x1_0_1_2 dos) bitsLt_bf16_f32)))
    (truncf .bf16 p bitsLt_bf16_f32)) transposes_S12x6x128x16384_S12x16384x6x128_0_3_1_2) bitsLt_bf16_f32
/-- The gradient of the keys. -/
def dkR (q : FVec Ideal S256x6x128 .bf16) (ds : FVec Ideal S12x6x256x16384 .bf16) : FVec Ideal S12x16384x6x128 .bf16 :=
  truncf .bf16 (mulf (broadcastInDim S12x16384x6x128 ![] bcast_S_S12x16384x6x128 (constant S_ .f32 0x3DB504F3#32))
    (transpose S12x16384x6x128 [2, 3, 0, 1] (Host.dotGeneral dot_S256x6x128_S12x6x256x16384_S6x128x12x16384_0_2_2_03_1_1 none q ds) transposes_S6x128x12x16384_S12x16384x6x128_2_3_0_1)) bitsLt_bf16_f32
/-- The sequences' gradients of the queries. -/
def dqsR (ks : FVec Ideal S12x6 .f32) (k : FVec Ideal S12x16384x6x128 .bf16) (ds : FVec Ideal S12x6x256x16384 .bf16) : FVec Ideal S12x256x6x128 .f32 :=
  mulf (broadcastInDim S12x256x6x128 ![0, 1, 2, 3] bcast_S12x1x6x1_S12x256x6x128_0_1_2_3 (broadcastInDim S12x1x6x1 ![0, 2] bcast_S12x6_S12x1x6x1_0_2
      (mulf (broadcastInDim S12x6 ![] bcast_S_S12x6 (constant S_ .f32 0x3DB504F3#32)) ks)))
    (transpose S12x256x6x128 [0, 3, 1, 2] (Host.dotGeneral dot_S12x16384x6x128_S12x6x256x16384_S12x6x128x256_1_3_3_2_02_01 none k ds) transposes_S12x6x128x256_S12x256x6x128_0_3_1_2)
/-- The gradient of the queries. -/
def dqR (s : FVec Ideal S12x256x6x128 .f32) : FVec Ideal S256x6x128 .bf16 :=
  truncf .bf16 (Host.reduceAdd s (constant S_ .f32 0x00000000#32) reducesTo_S12x256x6x128_S256x6x128_d0 h_S_) bitsLt_bf16_f32

theorem yR_at (a : Args) (b : Fin 12) (l : Fin 256) (h : Fin 6) : yR a.g (ix4 b l h 0) = a.y b l h := by
  pointwise [yR]
  rfl
theorem pR_at (a : Args) (k : FVec Ideal S12x16384x6x128 .bf16) (hk : ∀ b t h d, k (ix4 b t h d) = a.k (ix4 b t h d)) (b : Fin 12) (h : Fin 6) (l : Fin 256) (t : Fin 16384) :
    pR a.q k a.ks a.lse (ix4 b h l t) = a.p b h l t := by
  pointwise [pR]
  unfold Args.p Args.sks
  simp only [hk, mul_comm (a.k _)]
theorem deltaR_at (a : Args) (cd : FVec Ideal S12x256x6x128 .f32) (hc : ∀ b l h d, cd (ix4 b l h d) = a.cod b l h d) (dos : FVec Ideal S12x256x6 .f32) (hd : ∀ b l h, dos (ix3 b l h) = a.dos b l h)
    (b : Fin 12) (l : Fin 256) (h : Fin 6) : deltaR cd dos a.o (ix3 b l h) = a.delta b h l := by
  pointwise [deltaR]
  unfold Args.delta
  simp only [hc, hd]
theorem dsR_at (a : Args) (p : FVec Ideal S12x6x256x16384 .f32) (hp : ∀ b h l t, p (ix4 b h l t) = a.p b h l t) (cd : FVec Ideal S12x256x6x128 .f32) (hc : ∀ b l h d, cd (ix4 b l h d) = a.cod b l h d)
    (dos : FVec Ideal S12x256x6 .f32) (hd : ∀ b l h, dos (ix3 b l h) = a.dos b l h) (v : FVec Ideal S12x16384x6x128 .bf16) (hv : ∀ b t h d, v (ix4 b t h d) = a.v (ix4 b t h d))
    (dl : FVec Ideal S12x256x6 .f32) (hl : ∀ b l h, dl (ix3 b l h) = a.delta b h l) (b : Fin 12) (h : Fin 6) (l : Fin 256) (t : Fin 16384) :
    dsR p cd dos a.vs v dl (ix4 b h l t) = a.ds b h l t := by
  pointwise [dsR]
  unfold Args.ds
  simp only [hp, hc, hd, hv, hl]
theorem dvR_at (a : Args) (p : FVec Ideal S12x6x256x16384 .f32) (hp : ∀ b h l t, p (ix4 b h l t) = a.p b h l t) (cd : FVec Ideal S12x256x6x128 .f32) (hc : ∀ b l h d, cd (ix4 b l h d) = a.cod b l h d)
    (dos : FVec Ideal S12x256x6 .f32) (hd : ∀ b l h, dos (ix3 b l h) = a.dos b l h) (b : Fin 12) (t : Fin 16384) (h : Fin 6) (d : Fin 128) :
    dvR p cd dos (ix4 b t h d) = a.dv b t h d := by
  pointwise [dvR]
  unfold Args.dv
  simp only [hp, hc, hd]
theorem dkR_at (a : Args) (ds : FVec Ideal S12x6x256x16384 .bf16) (hs : ∀ b h l t, ds (ix4 b h l t) = a.ds b h l t) (b : Fin 12) (t : Fin 16384) (h : Fin 6) (d : Fin 128) :
    dkR a.q ds (ix4 b t h d) = a.dk b t h d := by
  pointwise [dkR]
  unfold Args.dk
  simp only [hs]
theorem dqsR_at (a : Args) (k : FVec Ideal S12x16384x6x128 .bf16) (hk : ∀ b t h d, k (ix4 b t h d) = a.k (ix4 b t h d)) (ds : FVec Ideal S12x6x256x16384 .bf16) (hs : ∀ b h l t, ds (ix4 b h l t) = a.ds b h l t)
    (b : Fin 12) (l : Fin 256) (h : Fin 6) (d : Fin 128) : dqsR a.ks k ds (ix4 b l h d) = a.dqs b l h d := by
  pointwise [dqsR]
  unfold Args.dqs Args.sks
  simp only [hs, hk, mul_comm (a.ds _ _ _ _)]
theorem dqR_at (a : Args) (s : FVec Ideal S12x256x6x128 .f32) (hs : ∀ b l h d, s (ix4 b l h d) = a.dqs b l h d) (l : Fin 256) (h : Fin 6) (d : Fin 128) :
    dqR s (ix3 l h d) = a.dq l h d := by
  pointwise [dqR]
  unfold Args.dq
  simp only [hs]

end Cert.ReferenceIdeal.Ref
end
-- ==== Proof.Ref.Codes.lean ====
/- The reference's quantiser, element by element, over variables. -/
module
public import proofs.«01_k».proof.Proof.Gen.ReferenceIdeal
public import proofs.«01_k».proof.Proof.Gen.ReferenceIdeal.Frame
public import proofs.«01_k».proof.Proof.Val.Out
@[expose] public section
set_option maxRecDepth 16384
noncomputable section
open Idealize.ShloMosaic Idealize.ShloMosaic.TcCoe
namespace Cert.ReferenceIdeal.Ref
open Cert.ReferenceIdeal Cert.ReferenceIdeal.Gen Cert.Val

theorem pay6_at (y : Vec Ideal S12x256x6x1 .f32) (b : Fin 12) (l : Fin 256) (h : Fin 6) : k0_pay6 (F := Ideal) y (ix4 b l h 0) = rexp (y (ix4 b l h 0)) := by
  have h1 : Ideal.ofBits FTy.f32 0x3F800000#32 = 1 := by
    simp [Ideal.ofBits, Ideal.ieee]
    rw [← EReal.coe_mul]
    norm_num
  have h0 : Ideal.ofBits FTy.f32 0x00000000#32 = 0 := by simp [Ideal.ofBits, Ideal.ieee]
  unfold rexp
  rw [h1, h0]
  pointwise [k0_pay6]
  rfl
theorem scale_at (y : Vec Ideal S12x256x6x1 .f32) (b : Fin 12) (l : Fin 256) (h : Fin 6) :
    k0_pay3 (F := Ideal) (k0_pay6 y) (ix4 b l h 0) = Ideal.exp2 (rexp (y (ix4 b l h 0))) := by
  pointwise [k0_pay3, pay6_at]
  rfl
theorem code_at (x0 x1 : Vec Ideal S12x16384x6x128 .fp8e4m3) (x2 : Vec Ideal S12x256x6x128 .f32) (y : Vec Ideal S12x256x6x1 .f32) (b : Fin 12) (l : Fin 256) (h : Fin 6) (d : Fin 128) :
    k0_pay1 (F := Ideal) (FloatOps.ofBits FTy.f32 1197473792#32) (k0_pay8 x0 x1 x2 y) (ix4 b l h d) =
      min (Ideal.ofBits FTy.f32 0x47600000#32) (max (Ideal.ofBits FTy.f32 0xC7600000#32) (x2 (ix4 b l h d) * Ideal.exp2 (Ideal.ofBits .f32 0x00000000#32 - rexp (y (ix4 b l h 0))))) := by
  pointwise [k0_pay1, k0_pay8, k0_pay7, pay6_at]
  rfl
theorem code32_at (x0 x1 : Vec Ideal S12x16384x6x128 .fp8e4m3) (x2 : Vec Ideal S12x256x6x128 .f32) (y : Vec Ideal S12x256x6x1 .f32) (b : Fin 12) (l : Fin 256) (h : Fin 6) (d : Fin 128) :
    k0_pay2 (F := Ideal) (FloatOps.ofBits FTy.f32 1197473792#32) (k0_pay8 x0 x1 x2 y) (ix4 b l h d) =
      k0_pay1 (F := Ideal) (FloatOps.ofBits FTy.f32 1197473792#32) (k0_pay8 x0 x1 x2 y) (ix4 b l h d) := by
  pointwise [k0_pay2]
theorem wide_at (x : Vec Ideal S12x16384x6x128 .fp8e4m3) (b : Fin 12) (t : Fin 16384) (h : Fin 6) (d : Fin 128) : k0_pay4 (F := Ideal) x (ix4 b t h d) = x (ix4 b t h d) := by
  pointwise [k0_pay4]
theorem wide_at' (x : Vec Ideal S12x16384x6x128 .fp8e4m3) (b : Fin 12) (t : Fin 16384) (h : Fin 6) (d : Fin 128) : k0_pay5 (F := Ideal) x (ix4 b t h d) = x (ix4 b t h d) := by
  pointwise [k0_pay5]
end Cert.ReferenceIdeal.Ref
end
-- ==== Proof.Ref.Region.lean ====
/- The reference's quantiser, element by element over the arguments as launched. -/
module
public import proofs.«01_k».proof.Proof.Gen.ReferenceIdeal.Frame
public import proofs.«01_k».proof.Proof.Ref.Ops
public import proofs.«01_k».proof.Proof.Ref.Codes
public import Idealize.ShloMosaic.Lib.Claim
public import Idealize.ShloMosaic.Lib.Pipeline.ValueKit
@[expose] public section
set_option maxRecDepth 16384
noncomputable section
open Idealize.ShloMosaic Idealize.ShloMosaic.TcCoe Idealize.SL.Sem
namespace Cert.ReferenceIdeal.Ref
open Cert.ReferenceIdeal Cert.ReferenceIdeal.Gen Cert.Val
variable (m : (ℓ : Loc nD τ sig) → Buf (Elt Ideal) ℓ) (c : Dev nD)

/-- The arguments as launched. -/
def args : Args where
  q := m ((c : Thread nD τ).loc main_arg0)
  k := m ((c : Thread nD τ).loc main_arg1)
  ks := m ((c : Thread nD τ).loc main_arg2)
  v := m ((c : Thread nD τ).loc main_arg3)
  vs := m ((c : Thread nD τ).loc main_arg4)
  o := m ((c : Thread nD τ).loc main_arg5)
  lse := m ((c : Thread nD τ).loc main_arg6)
  g := m ((c : Thread nD τ).loc main_arg7)

theorem idx : ∀ t : Fin cfg0.N, win0_0.index t = ![0, 0, 0, 0] ∧ win0_1.index t = ![0, 0, 0, 0] ∧ win0_2.index t = ![0, 0, 0, 0] ∧
    win0_3.index t = ![0, 0, 0, 0] ∧ win0_4.index t = ![0, 0, 0, 0] ∧ win0_5.index t = ![0, 0, 0, 0] ∧ win0_6.index t = ![0, 0, 0, 0] ∧
    win0_7.index t = ![0, 0, 0, 0] ∧ win0_8.index t = ![0, 0, 0, 0] :=
  (by decide +kernel : ∀ t : Fin grid0.N, _)

theorem v0_at (b : Fin 12) (l : Fin 256) (h : Fin 6) (d : Fin 128) : V m c main_v0 (ix4 b l h d) = (args m c).g (ix4 b l h d) := by
  show StableHlo.after (List.flatten [hostOps0]) _ _ _ = _
  simp only [hostOps0, List.flatten_cons, List.flatten_nil, List.append_nil]
  after_results
  rfl
theorem v5_at (b : Fin 12) (l : Fin 256) (h : Fin 6) : V m c main_v5 (ix4 b l h 0) = (args m c).y b l h := by
  show StableHlo.after (List.flatten [hostOps0]) _ _ _ = _
  simp only [hostOps0, List.flatten_cons, List.flatten_nil, List.append_nil]
  after_results
  exact yR_at (args m c) b l h

theorem read0 (b : Fin 12) (t : Fin 16384) (h : Fin 6) (d : Fin 128) : iblk m c 0 t0_0 (ix4 b t h d) = (args m c).k (ix4 b t h d) := by
  show _ = m ((c : Thread nD τ).loc main_arg1) _
  rw [← V_main_arg1 m c]
  blk_ext [iblk, idx t0_0]
theorem read1 (b : Fin 12) (t : Fin 16384) (h : Fin 6) (d : Fin 128) : iblk m c 1 t0_0 (ix4 b t h d) = (args m c).v (ix4 b t h d) := by
  show _ = m ((c : Thread nD τ).loc main_arg3) _
  rw [← V_main_arg3 m c]
  blk_ext [iblk, idx t0_0]
theorem blk2 (X : Vec Ideal S12x256x6x128 .f32) (b : Fin 12) (l : Fin 256) (h : Fin 6) (d : Fin 128) :
    ((cfg0.win 2).blk t0_0).view.read (Elt Ideal) X (ix4 b l h d) = X (ix4 b l h d) := by
  blk_ext [idx t0_0]
theorem blk3 (X : Vec Ideal S12x256x6x1 .f32) (b : Fin 12) (l : Fin 256) (h : Fin 6) :
    ((cfg0.win 3).blk t0_0).view.read (Elt Ideal) X (ix4 b l h 0) = X (ix4 b l h 0) := by
  blk_ext [idx t0_0]
theorem read2 (b : Fin 12) (l : Fin 256) (h : Fin 6) (d : Fin 128) : iblk m c 2 t0_0 (ix4 b l h d) = (args m c).g (ix4 b l h d) :=
  (blk2 (V m c main_v0) b l h d).trans (v0_at m c b l h d)
theorem read3 (b : Fin 12) (l : Fin 256) (h : Fin 6) : iblk m c 3 t0_0 (ix4 b l h 0) = (args m c).y b l h :=
  (blk3 (V m c main_v5) b l h).trans (v5_at m c b l h)

theorem final4 : (dats m 0 c).arrAt 4 (cfgs 0).N = (args m c).k := by
  refine (dats m 0 c).arrAt_eq_of_after_last 4 t0_0 (by decide +kernel) _ fun j => ?_
  blk_simp
  rw [after0_4]
  frame_out
  rw [eq_ix4 j]
  refine (wide_at _ _ _ _ _).trans ((read0 m c _ _ _ _).trans ?_)
  generalize (args m c).k = X
  blk_ext [idx t0_0]
theorem final5 : (dats m 0 c).arrAt 5 (cfgs 0).N = (args m c).v := by
  refine (dats m 0 c).arrAt_eq_of_after_last 5 t0_0 (by decide +kernel) _ fun j => ?_
  blk_simp
  rw [after0_5]
  frame_out
  rw [eq_ix4 j]
  refine (wide_at' _ _ _ _ _).trans ((read1 m c _ _ _ _).trans ?_)
  generalize (args m c).v = X
  blk_ext [idx t0_0]

/-- The rounded codes. -/
def codes : FVec Ideal S12x256x6x128 .f32 := fun j => (args m c).cod (j 0) (j 1) (j 2) (j 3)
/-- The scales. -/
def scales : FVec Ideal S12x256x6x1 .f32 := fun j => (args m c).dos (j 0) (j 1) (j 2)

theorem cod_at (b : Fin 12) (l : Fin 256) (h : Fin 6) (d : Fin 128) :
    k0_pay1 (F := Ideal) (FloatOps.ofBits FTy.f32 1197473792#32) (k0_pay8 (iblk m c 0 t0_0) (iblk m c 1 t0_0) (iblk m c 2 t0_0) (iblk m c 3 t0_0)) (ix4 b l h d)
      = (args m c).cod b l h d := by
  refine (code_at _ _ _ _ b l h d).trans ?_
  rw [read2, read3]
  rfl
theorem final6 : (dats m 0 c).arrAt 6 (cfgs 0).N = codes m c := by
  refine (dats m 0 c).arrAt_eq_of_after_last 6 t0_0 (by decide +kernel) _ fun j => ?_
  blk_simp
  rw [after0_6]
  frame_out
  rw [eq_ix4 j]
  refine (cod_at m c _ _ _ _).trans ?_
  show codes m c (ix4 _ _ _ _) = codes m c _
  generalize codes m c = X
  blk_ext [idx t0_0]
theorem final7 : (dats m 0 c).arrAt 7 (cfgs 0).N = codes m c := by
  refine (dats m 0 c).arrAt_eq_of_after_last 7 t0_0 (by decide +kernel) _ fun j => ?_
  blk_simp
  rw [after0_7]
  frame_out
  rw [eq_ix4 j]
  refine (code32_at _ _ _ _ _ _ _ _).trans ((cod_at m c _ _ _ _).trans ?_)
  show codes m c (ix4 _ _ _ _) = codes m c _
  generalize codes m c = X
  blk_ext [idx t0_0]
theorem final8 : (dats m 0 c).arrAt 8 (cfgs 0).N = scales m c := by
  refine (dats m 0 c).arrAt_eq_of_after_last 8 t0_0 (by decide +kernel) _ fun j => ?_
  blk_simp
  rw [after0_8]
  frame_out
  idx_vars j
  obtain rfl : j3 = 0 := Subsingleton.elim _ _
  refine (scale_at _ _ _ _).trans ?_
  rw [read3]
  show scales m c (ix4 _ _ _ 0) = scales m c _
  generalize scales m c = X
  blk_ext [idx t0_0]
end Cert.ReferenceIdeal.Ref
end
-- ==== Proof.Ref.Tail.lean ====
/- The reference's run: its results over the arguments as launched. -/
module
public import proofs.«01_k».proof.Proof.Ref.Region
@[expose] public section
set_option maxRecDepth 16384
noncomputable section
open Idealize.ShloMosaic Idealize.ShloMosaic.TcCoe Idealize.SL.Sem
namespace Cert.ReferenceIdeal.Ref
open Cert.ReferenceIdeal Cert.ReferenceIdeal.Gen Cert.Val
variable (m : (ℓ : Loc nD τ sig) → Buf (Elt Ideal) ℓ) (ρ : Dev nD → PrngReg) (c : Dev nD)

/-- What the lines after the region leave. -/
abbrev tail (r : Ref sig .tc) := Pipeline.afterTail₀ cfgs (dats m) 0 (V0 m) [hostOps1] c r

theorem kept_arg0 : Pipeline.withArrays (cfgs 0).spec c (V0 m c) (fun w => (dats m 0 c).arrAt w (cfgs 0).N) (Proc.tc.devRef main_arg0) = (args m c).q :=
  (Pipeline.withArrays_of_ne _ c (V0 m c) _ main_arg0 (by exact (by decide : ∀ w, Pipeline.arrRef spec0 w ≠ main_arg0))).trans (V_main_arg0 m c)
theorem kept_arg2 : Pipeline.withArrays (cfgs 0).spec c (V0 m c) (fun w => (dats m 0 c).arrAt w (cfgs 0).N) (Proc.tc.devRef main_arg2) = (args m c).ks :=
  (Pipeline.withArrays_of_ne _ c (V0 m c) _ main_arg2 (by exact (by decide : ∀ w, Pipeline.arrRef spec0 w ≠ main_arg2))).trans (V_main_arg2 m c)
theorem kept_arg4 : Pipeline.withArrays (cfgs 0).spec c (V0 m c) (fun w => (dats m 0 c).arrAt w (cfgs 0).N) (Proc.tc.devRef main_arg4) = (args m c).vs :=
  (Pipeline.withArrays_of_ne _ c (V0 m c) _ main_arg4 (by exact (by decide : ∀ w, Pipeline.arrRef spec0 w ≠ main_arg4))).trans (V_main_arg4 m c)
theorem kept_arg5 : Pipeline.withArrays (cfgs 0).spec c (V0 m c) (fun w => (dats m 0 c).arrAt w (cfgs 0).N) (Proc.tc.devRef main_arg5) = (args m c).o :=
  (Pipeline.withArrays_of_ne _ c (V0 m c) _ main_arg5 (by exact (by decide : ∀ w, Pipeline.arrRef spec0 w ≠ main_arg5))).trans (V_main_arg5 m c)
theorem kept_arg6 : Pipeline.withArrays (cfgs 0).spec c (V0 m c) (fun w => (dats m 0 c).arrAt w (cfgs 0).N) (Proc.tc.devRef main_arg6) = (args m c).lse :=
  (Pipeline.withArrays_of_ne _ c (V0 m c) _ main_arg6 (by exact (by decide : ∀ w, Pipeline.arrRef spec0 w ≠ main_arg6))).trans (V_main_arg6 m c)
theorem kept_k : Pipeline.withArrays (cfgs 0).spec c (V0 m c) (fun w => (dats m 0 c).arrAt w (cfgs 0).N) (Proc.tc.devRef main_v6_0) = (args m c).k :=
  (Pipeline.Dat.withArrays_arrAt (dats m 0 c) (by decide) (V0 m c) (A_eq m c) 4).trans (final4 m c)
theorem kept_v : Pipeline.withArrays (cfgs 0).spec c (V0 m c) (fun w => (dats m 0 c).arrAt w (cfgs 0).N) (Proc.tc.devRef main_v6_1) = (args m c).v :=
  (Pipeline.Dat.withArrays_arrAt (dats m 0 c) (by decide) (V0 m c) (A_eq m c) 5).trans (final5 m c)
theorem kept_codes : Pipeline.withArrays (cfgs 0).spec c (V0 m c) (fun w => (dats m 0 c).arrAt w (cfgs 0).N) (Proc.tc.devRef main_v6_3) = codes m c :=
  (Pipeline.Dat.withArrays_arrAt (dats m 0 c) (by decide) (V0 m c) (A_eq m c) 7).trans (final7 m c)
theorem kept_scales : Pipeline.withArrays (cfgs 0).spec c (V0 m c) (fun w => (dats m 0 c).arrAt w (cfgs 0).N) (Proc.tc.devRef main_v6_4) = scales m c :=
  (Pipeline.Dat.withArrays_arrAt (dats m 0 c) (by decide) (V0 m c) (A_eq m c) 8).trans (final8 m c)

/-- The scales, a row each. -/
def dos : FVec Ideal S12x256x6 .f32 := shapeCast S12x256x6 (scales m c) shapeCasts_S12x256x6x1_S12x256x6
theorem drop_at (x : Vec Ideal S12x256x6x1 .f32) (b : Fin 12) (l : Fin 256) (h : Fin 6) :
    shapeCast S12x256x6 x shapeCasts_S12x256x6x1_S12x256x6 (ix3 b l h) = x (ix4 b l h 0) := by
  pointwise
theorem dos_at (b : Fin 12) (l : Fin 256) (h : Fin 6) : dos m c (ix3 b l h) = (args m c).dos b l h := drop_at _ _ _ _
/-- The attention weights. -/
def pA := pR (args m c).q (args m c).k (args m c).ks (args m c).lse
/-- The scores' gradient. -/
def dsA := dsR (pA m c) (codes m c) (dos m c) (args m c).vs (args m c).v (deltaR (codes m c) (dos m c) (args m c).o)
theorem codes_at (b : Fin 12) (l : Fin 256) (h : Fin 6) (d : Fin 128) : codes m c (ix4 b l h d) = (args m c).cod b l h d := rfl
theorem pA_at (b : Fin 12) (h : Fin 6) (l : Fin 256) (t : Fin 16384) : pA m c (ix4 b h l t) = (args m c).p b h l t :=
  pR_at (args m c) _ (fun _ _ _ _ => rfl) b h l t
theorem dsA_at (b : Fin 12) (h : Fin 6) (l : Fin 256) (t : Fin 16384) : dsA m c (ix4 b h l t) = (args m c).ds b h l t :=
  dsR_at (args m c) _ (pA_at m c) _ (codes_at m c) _ (dos_at m c) _ (fun _ _ _ _ => rfl) _ (deltaR_at (args m c) _ (codes_at m c) _ (dos_at m c)) b h l t

theorem t7 : tail m c main_v7 = dos m c := by
  unfold tail Pipeline.afterTail₀
  simp only [hostOps1, List.flatten_cons, List.flatten_nil, List.append_nil]
  after_results
  rw [kept_scales]
  rfl
theorem t18 : tail m c main_v18 = pA m c := by
  unfold tail Pipeline.afterTail₀
  simp only [hostOps1, List.flatten_cons, List.flatten_nil, List.append_nil]
  after_results
  rw [kept_arg0, kept_arg2, kept_arg6, kept_k]
  rfl
theorem t48 : tail m c main_v48 = dvR (pA m c) (codes m c) (dos m c) := by
  unfold tail Pipeline.afterTail₀
  simp only [hostOps1, List.flatten_cons, List.flatten_nil, List.append_nil]
  after_results
  rw [kept_arg0, kept_arg2, kept_arg6, kept_k, kept_codes, kept_scales]
  rfl
theorem t39 : tail m c main_v39 = dsA m c := by
  unfold tail Pipeline.afterTail₀
  simp only [hostOps1, List.flatten_cons, List.flatten_nil, List.append_nil]
  after_results
  rw [kept_arg0, kept_arg2, kept_arg4, kept_arg5, kept_arg6, kept_k, kept_v, kept_codes, kept_scales]
  rfl
theorem t53 : tail m c main_v53 = dkR (args m c).q (dsA m c) := by
  unfold tail Pipeline.afterTail₀
  simp only [hostOps1, List.flatten_cons, List.flatten_nil, List.append_nil]
  after_results
  rw [kept_arg0, kept_arg2, kept_arg4, kept_arg5, kept_arg6, kept_k, kept_v, kept_codes, kept_scales]
  rfl
theorem t60 : tail m c main_v60 = dqsR (args m c).ks (args m c).k (dsA m c) := by
  unfold tail Pipeline.afterTail₀
  simp only [hostOps1, List.flatten_cons, List.flatten_nil, List.append_nil]
  after_results
  rw [kept_arg0, kept_arg2, kept_arg4, kept_arg5, kept_arg6, kept_k, kept_v, kept_codes, kept_scales]
  rfl
theorem t62 : tail m c main_v62 = dqR (dqsR (args m c).ks (args m c).k (dsA m c)) := by
  unfold tail Pipeline.afterTail₀
  simp only [hostOps1, List.flatten_cons, List.flatten_nil, List.append_nil]
  after_results
  rw [kept_arg0, kept_arg2, kept_arg4, kept_arg5, kept_arg6, kept_k, kept_v, kept_codes, kept_scales]
  rfl

theorem o62 : tail m c main_v62 = (args m c).out0 := by
  rw [t62]; funext j; rw [eq_ix3 j]
  exact dqR_at (args m c) _ (dqsR_at (args m c) _ (fun _ _ _ _ => rfl) _ (dsA_at m c)) _ _ _
theorem o60 : tail m c main_v60 = (args m c).out1 := by
  rw [t60]; funext j; rw [eq_ix4 j]
  exact dqsR_at (args m c) _ (fun _ _ _ _ => rfl) _ (dsA_at m c) _ _ _ _
theorem o53 : tail m c main_v53 = (args m c).out2 := by
  rw [t53]; funext j; rw [eq_ix4 j]
  exact dkR_at (args m c) _ (dsA_at m c) _ _ _ _
theorem o48 : tail m c main_v48 = (args m c).out3 := by
  rw [t48]; funext j; rw [eq_ix4 j]
  exact dvR_at (args m c) _ (pA_at m c) _ (codes_at m c) _ (dos_at m c) _ _ _ _
theorem o7 : tail m c main_v7 = (args m c).out5 := by
  rw [t7]; funext j; rw [eq_ix3 j]
  exact dos_at m c _ _ _

theorem run : θ_run (defs (F := Ideal)) (onTc (τ := τ) (main (F := Ideal))) ⟨m, fun _ => 0, ρ⟩ (fun r => ∀ c : Dev nD,
      r.2.mem ((c.tc : Thread nD τ).loc main_v62) = (args m c).out0
      ∧ r.2.mem ((c.tc : Thread nD τ).loc main_v60) = (args m c).out1
      ∧ r.2.mem ((c.tc : Thread nD τ).loc main_v53) = (args m c).out2
      ∧ r.2.mem ((c.tc : Thread nD τ).loc main_v48) = (args m c).out3
      ∧ r.2.mem ((c.tc : Thread nD τ).loc main_v6_2) = (args m c).out4
      ∧ r.2.mem ((c.tc : Thread nD τ).loc main_v7) = (args m c).out5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h.1 c).2 main_v62 (Pipeline.mem_restRefs_of main_v62 (by decide) (by decide))).trans (o62 m c),
     ((h.1 c).2 main_v60 (Pipeline.mem_restRefs_of main_v60 (by decide) (by decide))).trans (o60 m c),
     ((h.1 c).2 main_v53 (Pipeline.mem_restRefs_of main_v53 (by decide) (by decide))).trans (o53 m c),
     ((h.1 c).2 main_v48 (Pipeline.mem_restRefs_of main_v48 (by decide) (by decide))).trans (o48 m c),
     ((h.1 c).1 6).trans (final6 m c),
     ((h.1 c).2 main_v7 (Pipeline.mem_restRefs_of main_v7 (by decide) (by decide))).trans (o7 m c), h.2 c⟩)
    (θ_run_and (run_main m ρ) (unchanged m ρ))
end Cert.ReferenceIdeal.Ref
end
-- ==== Proof.Ref.Pre.lean ====
/- The precondition, entry by entry. -/
module
public import proofs.«01_k».proof.Pre_d_out_finite
public import proofs.«01_k».proof.Proof.Val.Out
public import Idealize.ShloMosaic.Lib.ReduceAll
@[expose] public section
set_option maxRecDepth 16384
noncomputable section
open Idealize.ShloMosaic
namespace Cert.Pre_d_out_finite.Ref
open Cert.Pre_d_out_finite Cert.Val

/-- The precondition's side conditions. -/
theorem facts : Cert.Pre_d_out_finite.Facts where
  bitsLt_bf16_f32 := by decide
  bcast_S_S12x256x6x128 := by decide
  reducesTo_S12x256x6x128_S_d0_1_2_3 := by decide
  h_S_ := by decide

theorem ole_at (x : FVec Ideal S12x256x6x128 .f32) (h : S_.BroadcastsInDim S12x256x6x128 (![] : Fin 0 → Fin S12x256x6x128.rank))
    (b : Fin 12) (l : Fin 256) (g : Fin 6) (d : Fin 128)
    (hx : cmpf .ole x (broadcastInDim S12x256x6x128 ![] h (constant S_ .f32 0x7F7F0000#32)) (ix4 b l g d) = 1#1) :
    x (ix4 b l g d) ≤ Ideal.ofBits .f32 0x7F7F0000#32 := by
  revert hx
  pointwise
  intro hx
  by_contra hn
  rw [decide_eq_false hn] at hx
  exact absurd hx (by decide)

theorem finite [Cert.Pre_d_out_finite.Facts] (a : Args) (h : Cert.Pre_d_out_finite.fn (F := Ideal) a.q a.k a.ks a.v a.vs a.o a.lse a.g = fun _ => 1#1) : a.Finite := by
  intro i
  haveI : Subsingleton S_.Idx := ⟨fun a b => funext fun k => k.elim0⟩
  have h2 := Host.reduce_andi_all _ _ _ _ _ (congrFun h (fun k => k.elim0)) i
  rw [eq_ix4 i] at h2 ⊢
  exact ole_at _ _ _ _ _ _ h2
end Cert.Pre_d_out_finite.Ref
end
-- ==== Proof.lean ====
module

public import proofs.«01_k».proof.Defs
public import proofs.«01_k».proof.Proof.K.Frame
public import proofs.«01_k».proof.Proof.KI.Frame
public import proofs.«01_k».proof.Proof.Gen.ReferenceIdeal
public import proofs.«01_k».proof.Proof.Gen.ReferenceIdeal.Frame
public import proofs.«01_k».proof.Proof.Ker.Out
public import proofs.«01_k».proof.Proof.Ref.Tail
public import proofs.«01_k».proof.Proof.Ref.Pre
public import Idealize.ShloMosaic.Adequacy
public import Idealize.ShloMosaic.Init

@[expose] public section

noncomputable section

namespace Cert.Proof

open Idealize.ShloMosaic Idealize.SL.Sem Cert.Kernel

/-- Memories that agree on the arguments read the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (Cert.ReferenceIdeal.Ref.args m' c).q = (Cert.KernelIdeal.Ker.args m c).q) (h1 : (Cert.ReferenceIdeal.Ref.args m' c).k = (Cert.KernelIdeal.Ker.args m c).k)
    (h2 : (Cert.ReferenceIdeal.Ref.args m' c).ks = (Cert.KernelIdeal.Ker.args m c).ks) (h3 : (Cert.ReferenceIdeal.Ref.args m' c).v = (Cert.KernelIdeal.Ker.args m c).v)
    (h4 : (Cert.ReferenceIdeal.Ref.args m' c).vs = (Cert.KernelIdeal.Ker.args m c).vs) (h5 : (Cert.ReferenceIdeal.Ref.args m' c).o = (Cert.KernelIdeal.Ker.args m c).o)
    (h6 : (Cert.ReferenceIdeal.Ref.args m' c).lse = (Cert.KernelIdeal.Ker.args m c).lse) (h7 : (Cert.ReferenceIdeal.Ref.args m' c).g = (Cert.KernelIdeal.Ker.args m c).g) :
    Cert.ReferenceIdeal.Ref.args m' c = Cert.KernelIdeal.Ker.args m c := by
  revert h0 h1 h2 h3 h4 h5 h6 h7
  generalize Cert.ReferenceIdeal.Ref.args m' c = a
  generalize Cert.KernelIdeal.Ker.args m c = b
  intro h0 h1 h2 h3 h4 h5 h6 h7
  cases a
  cases b
  dsimp only at h0 h1 h2 h3 h4 h5 h6 h7
  subst h0 h1 h2 h3 h4 h5 h6 h7
  rfl

/-- The kernel's six results are the reference's. -/
theorem algebraic : Cert.algebraic_KernelIdeal_ReferenceIdeal_pre_d_out_finite (hKernelIdeal := Cert.KernelIdeal.Gen.facts) (hReferenceIdeal := Cert.ReferenceIdeal.Gen.facts)
    (hPre_d_out_finite := Cert.Pre_d_out_finite.Ref.facts) := by
  intro m g m' g' hpre hagree
  have e : ∀ c, Cert.ReferenceIdeal.Ref.args m' c = Cert.KernelIdeal.Ker.args m c := fun c =>
    let ⟨h0, h1, h2, h3, h4, h5, h6, h7⟩ := hagree c
    args_eq m m' c h0 h1 h2 h3 h4 h5 h6 h7
  have hf : ∀ c, (Cert.KernelIdeal.Ker.args m c).Finite := fun c =>
    @Cert.Pre_d_out_finite.Ref.finite Cert.Pre_d_out_finite.Ref.facts (Cert.KernelIdeal.Ker.args m c) (hpre c)
  have hr := Cert.ReferenceIdeal.Ref.run m' g'
  simp only [e] at hr
  exact ⟨fun c => (Cert.KernelIdeal.Ker.args m c).out0, fun c => (Cert.KernelIdeal.Ker.args m c).out1, fun c => (Cert.KernelIdeal.Ker.args m c).out2,
    fun c => (Cert.KernelIdeal.Ker.args m c).out3, fun c => (Cert.KernelIdeal.Ker.args m c).out4, fun c => (Cert.KernelIdeal.Ker.args m c).out5,
    Cert.KernelIdeal.Ker.run m g hf, hr⟩

theorem claim : Cert.Claim := ⟨Cert.Kernel.Gen.facts, Cert.KernelIdeal.Gen.facts, Cert.ReferenceIdeal.Gen.facts, Cert.Pre_d_out_finite.Ref.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  IdealRules.named_const.statement Cert.KernelIdeal.κ "log2e" .f32 0x3FB8AA3B#32 (((Real.log 2)⁻¹ : ℝ) : EReal) rfl, algebraic⟩

end Cert.Proof

end
